-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![4096, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .f32) (main_arg1 : FVec F S256x16 .f32) (main_arg2 : IVec S1024x2 32) (main_arg3 : FVec F S4x256x512 .f32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x256 .f32 := Host.absf main_arg0
  let main_cst : FVec F S_ .f32 := constant S_ .f32 0x7F800000#32
  let main_v7 : FVec F S1024x256 .f32 := broadcastInDim S1024x256 ![] bcast_S_S1024x256 main_cst
  let main_v8 : IVec S1024x256 1 := cmpf .olt main_v6 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v5 main_v9
  let main_v11 : FVec F S256x16 .f32 := Host.absf main_arg1
  let main_cst_3 : FVec F S_ .f32 := constant S_ .f32 0x7F800000#32
  let main_v12 : FVec F S256x16 .f32 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Pre_finite_in_range_ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S4096x256 .f32) (main_arg1 : FVec F S256x16 .f32) (main_arg2 : IVec S4096x2 32) (main_arg3 : FVec F S16x256x512 .f32) : IVec S_ 1 :=
  let main_c : IVec S_ 32 := constantI S_ 32 0#32
  let main_v0 : IVec S4096x2 32 := broadcastInDim S4096x2 ![] bcast_S_S4096x2 main_c
  let main_v1 : IVec S4096x2 1 := cmpi .sge main_arg2 main_v0
  let main_c_0 : IVec S_ 32 := constantI S_ 32 16#32
  let main_v2 : IVec S4096x2 32 := broadcastInDim S4096x2 ![] bcast_S_S4096x2 main_c_0
  let main_v3 : IVec S4096x2 1 := cmpi .slt main_arg2 main_v2
  let main_v4 : IVec S4096x2 1 := andi main_v1 main_v3
  let main_c_1 : IVec S_ 1 := constantI S_ 1 1#1
  let main_v5 : IVec S_ 1 := (fun x v => Host.reduce IntOp.andi x v reducesTo_S4096x2_S_d0_1 h_S_) main_v4 main_c_1
  let main_v6 : FVec F S4096x256 .f32 := Host.absf main_arg0
  let main_cst : FVec F S_ .f32 := constant S_ .f32 0x7F800000#32
  let main_v7 : FVec F S4096x256 .f32 := broadcastInDim S4096x256 ![] bcast_S_S4096x256 main_cst
  let main_v8 : IVec S4096x256 1 := cmpf .olt main_v6 main_v7
  let main_c_2 : IVec S_ 1 := constantI S_ 1 1#1
  let main_v9 : IVec S_ 1 := (fun x v => Host.reduce IntOp.andi x v reducesTo_S4096x256_S_d0_1 h_S_) main_v8 main_c_2
  let main_v10 : IVec S_ 1 := andi main_v5 main_v9
  let main_v11 : FVec F S256x16 .f32 := Host.absf main_arg1
  let main_cst_3 : FVec F S_ .f32 := constant S_ .f32 0x7F800000#32
  let main_v12 : FVec F S256x16 .f32 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Kernel.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S1024x512 : Shape := ⟨2, ![1024, 512]⟩
abbrev S4x4x256x512 : Shape := ⟨4, ![4, 4, 256, 512]⟩
abbrev S4x4 : Shape := ⟨2, ![4, 4]⟩
abbrev S_ : Shape := ⟨0, ![]⟩
abbrev S1x256x512 : Shape := ⟨3, ![1, 256, 512]⟩
abbrev S256x512 : Shape := ⟨2, ![256, 512]⟩
abbrev S1x1x256x512 : Shape := ⟨4, ![1, 1, 256, 512]⟩
abbrev S1x1 : Shape := ⟨2, ![1, 1]⟩
abbrev S1024x16 : Shape := ⟨2, ![1024, 16]⟩
abbrev S1024 : Shape := ⟨1, ![1024]⟩
abbrev S1024x1 : Shape := ⟨2, ![1024, 1]⟩
abbrev S16x16 : Shape := ⟨2, ![16, 16]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x16, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S4x4x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v19 : BitVec 32 := Scalar.muli v4 c1_i32_24
  let v20 : BitVec 32 := Scalar.addi c0_i32_25 v19
  v20.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_44 : BitVec 32 := 1#32
  let v35 : BitVec 32 := Scalar.muli v7 c1_i32_44
  let v36 : BitVec 32 := Scalar.addi c0_i32_45 v35
  v36.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_64 : BitVec 32 := 1#32
  let v51 : BitVec 32 := Scalar.muli v4 c1_i32_64
  let v52 : BitVec 32 := Scalar.addi c0_i32_65 v51
  v52.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_83 : BitVec 32 := 1#32
  let v67 : BitVec 32 := Scalar.muli v7 c1_i32_83
  let v68 : BitVec 32 := Scalar.addi c0_i32_84 v67
  v68.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_140 : BitVec 32 := 1#32
  let v164 : BitVec 32 := Scalar.muli v4 c1_i32_140
  let v165 : BitVec 32 := Scalar.addi c0_i32_141 v164
  v165.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_154 : BitVec 32 := 1#32
  let v174 : BitVec 32 := Scalar.muli v4 c1_i32_154
  let v175 : BitVec 32 := Scalar.addi c0_i32_155 v174
  v175.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_182 : BitVec 32 := 1#32
  let v192 : BitVec 32 := Scalar.muli v7 c1_i32_182
  let v193 : BitVec 32 := Scalar.addi c0_i32_183 v192
  v193.toNat
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_196 : BitVec 32 := 1#32
  let v202 : BitVec 32 := Scalar.muli v7 c1_i32_196
  let v203 : BitVec 32 := Scalar.addi c0_i32_197 v202
  v203.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_224 : BitVec 32 := 1#32
  let v220 : BitVec 32 := Scalar.muli v4 c1_i32_224
  let v221 : BitVec 32 := Scalar.addi c0_i32_225 v220
  v221.toNat
def k0_dev12 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_238 : BitVec 32 := 1#32
  let v230 : BitVec 32 := Scalar.muli v4 c1_i32_238
  let v231 : BitVec 32 := Scalar.addi c0_i32_239 v230
  v231.toNat
def k0_dev13 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_266 : BitVec 32 := 1#32
  let v248 : BitVec 32 := Scalar.muli v7 c1_i32_266
  let v249 : BitVec 32 := Scalar.addi c0_i32_267 v248
  v249.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_280 : BitVec 32 := 1#32
  let v258 : BitVec 32 := Scalar.muli v7 c1_i32_280
  let v259 : BitVec 32 := Scalar.addi c0_i32_281 v258
  v259.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x1x1 : Shape := ⟨3, ![4096, 1, 1]⟩
abbrev S4096x256x512 : Shape := ⟨3, ![4096, 256, 512]⟩
abbrev S4096x512 : Shape := ⟨2, ![4096, 512]⟩

abbrev nBuf : Space → Nat
  | .hbm => 68
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x2, .i32⟩
  | .hbm, ⟨3, _⟩ => ⟨S16x256x512, .f32⟩
  | .hbm, ⟨4, _⟩ => ⟨S4096x16, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S4096x1, .i32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S4096x1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S_, .i32⟩
  | .hbm, ⟨25, _⟩ => ⟨S4096x1, .i32⟩
  | .hbm, ⟨26, _⟩ => ⟨S4096x1, .i32⟩
  | .hbm, ⟨27, _⟩ => ⟨S4096x1, .i32⟩
  | .hbm, ⟨28, _⟩ => ⟨S4096x1x1, .i32⟩
  | .hbm, ⟨29, _⟩ => ⟨S4096x1, .f32⟩
  | .hbm, ⟨30, _⟩ => ⟨S4096x1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S_, .i32⟩
  | .hbm, ⟨35, _⟩ => ⟨S4096x1, .i32⟩
  | .hbm, ⟨36, _⟩ => ⟨S4096x1, .i32⟩
  | .hbm, ⟨37, _⟩ => ⟨S4096x1, .i32⟩
  | .hbm, ⟨38, _⟩ => ⟨S4096x1x1, .i32⟩
  | .hbm, ⟨39, _⟩ => ⟨S4096x1, .f32⟩
  | .hbm, ⟨40, _⟩ => ⟨S4096x1, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x256x512, .f32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x256x512, .f32⟩
  | .hbm, ⟨59, _⟩ => ⟨S4096x512, .f32⟩
  | .hbm, ⟨60, _⟩ => ⟨S4096x512, .f32⟩
  | .hbm, ⟨61, _⟩ => ⟨S4096x1, .f32⟩
  | .hbm, ⟨62, _⟩ => ⟨S4096x512, .f32⟩
  | .hbm, ⟨63, _⟩ => ⟨S4096x512, .f32⟩
  | .hbm, ⟨64, _⟩ => ⟨S4096x1, .f32⟩
  | .hbm, ⟨65, _⟩ => ⟨S4096x512, .f32⟩
  | .hbm, ⟨66, _⟩ => ⟨S4096x512, .f32⟩
  | .hbm, ⟨67, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.Protocol.lean ====
/-
# The protocol of the expert exchange

Four devices on a ring, `nxt c = c + 1`, `prv c = c + 3` (mod 4). Each device holds four experts' weights; the scratch
buffer of a device has 4 x 4 chunks `(s, j)`, and when everything has landed chunk `(s, j)` of device `c` holds expert `j`
of device `own c s`: slot 0 its own, slot 1 its left neighbour's, slot 2 its right neighbour's, slot 3 the opposite
device's.

Semaphores, per device:
* the barrier: two units, one from each neighbour. The unit of the neighbour `nxt c` brings that neighbour's chunks
  which `c` writes (those of the copies to the right), the unit of `prv c` those of the copies to the left. The device
  waits for both before its first copy.
* for each of the twelve copies `k = (s, j)`, named by the chunk it lands in: a send cell on the sender (its payload is
  the share of the source chunk that the copy read) and a receive cell on the target (its payload is the landed chunk,
  at the contents above).

Levels: the barrier 1; the receive cells of slots 1 and 2 that a later copy reads from 2; the others 3; staging and send
cells 0. A device waiting at a receive cell of level 2 owes only copies of level 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Writes
public import Idealize.ShloMosaic.Lib.Ring
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and one family of rounds with duties named by `Bool`. -/
abbrev UC : Type := URounds (GSem nD τ sig) Bool

/-- The ghost state: the launch's rounds and the protocol's. -/
abbrev UU : Type := UR sig nD τ × UC

local notation "𝕄" => MT nD τ sig Unit (Elt F) ℕ UU ℕ

/-- The launch's rounds in the ghost state. -/
abbrev EP : Emb (UR sig nD τ) (MT nD τ sig Unit (Elt F) ℕ UU ℕ) := embL

/-- The protocol's rounds in the ghost state. -/
abbrev EC : Emb UC (MT nD τ sig Unit (Elt F) ℕ UU ℕ) := embR

variable (m : (ℓ : Loc nD τ sig) → Buf (Elt F) ℓ) (ρ : Dev nD → PrngReg)

/-- The machine at the start. -/
def st₀ : MemSt nD τ sig (Elt F) := ⟨m, fun _ => 0, ρ⟩

/-! ## The ring -/

set_option backward.proofsInPublic true in
/-- The device to the right on the ring. -/
def nxt (c : Dev nD) : Dev nD := ⟨(c.val + 1) % 4, Nat.mod_lt _ (by decide)⟩

set_option backward.proofsInPublic true in
/-- The device to the left on the ring. -/
def prv (c : Dev nD) : Dev nD := ⟨(c.val + 3) % 4, Nat.mod_lt _ (by decide)⟩

/-- One to the right and one to the left is back. -/
theorem prv_nxt (c : Dev nD) : prv (nxt c) = c := by revert c; decide

/-- One to the left and one to the right is back. -/
theorem nxt_prv (c : Dev nD) : nxt (prv c) = c := by revert c; decide

/-- The ring as a permutation of the devices. -/
def ring : Dev nD ≃ Dev nD := ⟨nxt, prv, prv_nxt, nxt_prv⟩

/-- A copy is named by the chunk it lands in: slot `k.1 + 1`, expert `k.2`. -/
abbrev Copy := Fin 3 × Fin 4

/-- Does the copy go to the right? Slot 1 always, slot 2 never, slot 3 for the first two experts. -/
def toR (k : Copy) : Bool := k.1 = 0 || (k.1 = 2 && k.2.val < 2)
/-- The slot of the source chunk: the sender's own weights, or (for slot 3) what landed in slot 1 or 2. -/
def srcSlot (k : Copy) : Fin 4 := if k.1 = 2 then (if k.2.val < 2 then 1 else 2) else 0
/-- The neighbour a copy is sent to; its inverse is the neighbour it comes from. -/
def nbr (k : Copy) : Dev nD ≃ Dev nD := if toR k then ring else ring.symm
/-- Whose weights slot `s` of device `c` holds at the end. -/
def own (c : Dev nD) (s : Fin 4) : Dev nD := match s with
  | 0 => c | 1 => prv c | 2 => nxt c | 3 => nxt (nxt c)

/-- A copy's chunk holds, at its target, the weights of the device whose weights it was read from. -/
theorem own_nbr (k : Copy) (c : Dev nD) : own (nbr k c) k.1.succ = own c (srcSlot k) := by
  revert k c; decide

/-- A copy to the right goes to the device to the right. -/
theorem nbr_of_toR {k : Copy} (h : toR k = true) (c : Dev nD) : nbr k c = nxt c := by unfold nbr; rw [if_pos h]; rfl

/-- Any other copy goes to the device to the left. -/
theorem nbr_of_not_toR {k : Copy} (h : toR k = false) (c : Dev nD) : nbr k c = prv c := by
  unfold nbr; rw [if_neg (by rw [h]; decide)]; rfl

/-! ## Semaphores and cells -/

/-- The barrier semaphore. -/
abbrev barS : Sem sig := (SemArray.scalar (sig.barrier 0 rfl) : Sems sig S_).sem

set_option backward.proofsInPublic true in
/-- The send (`false`) and receive (`true`) semaphore of row `s`, column `j`. -/
def dsem (b : Bool) (s j : Fin 4) : DmaSem sig :=
  ⟨(if b then 21 else 5) + (4 * s.val + j.val), by
    show _ < 37
    cases b <;> simp <;> omega⟩

/-- The kernel's own semaphores as the launch indexes them. -/
abbrev osem (x : Bool × Fin 4 × Fin 4) : SemLoc sig := .dma (dsem x.1 x.2.1 x.2.2)
/-- The semaphores that take part in the protocol: the barrier, and a send and a receive semaphore for each copy. -/
abbrev Part := Option (Bool × Copy)

/-- The semaphore of each part of the protocol. -/
abbrev psem : Part → SemLoc sig
  | none => .reg barS
  | some (b, k) => .dma (dsem b k.1.succ k.2)

/-- A part's semaphore on device `c`. -/
abbrev cell (c : Dev nD) (x : Part) : GSem nD τ sig := ((c : Thread nD τ), psem x)

/-- The barrier of device `c`. -/
abbrev barCell (c : Dev nD) : GSem nD τ sig := cell c none

/-- The semaphore counting that copy `k` has left device `c`. -/
abbrev sendCell (c : Dev nD) (k : Copy) : GSem nD τ sig := cell c (some (false, k))

/-- The semaphore counting that copy `k` has arrived at device `c`. -/
abbrev recvCell (c : Dev nD) (k : Copy) : GSem nD τ sig := cell c (some (true, k))

set_option backward.proofsInPublic true in
/-- What a semaphore is for, read off its number. -/
def role : SemLoc sig → Option Part
  | .reg q => if q = barS then some none else none
  | .dma q => if h : 9 ≤ q.val ∧ q.val < 21 then some (some (false, ⟨(q.val - 9) / 4, by omega⟩, ⟨(q.val - 9) % 4, by omega⟩))
      else if h : 25 ≤ q.val ∧ q.val < 37 then some (some (true, ⟨(q.val - 25) / 4, by omega⟩, ⟨(q.val - 25) % 4, by omega⟩))
      else none

/-- The part read off a part's semaphore is the part. -/
theorem role_psem (x : Part) : role (psem x) = some x := by
  rcases x with _ | ⟨b, i, j⟩
  · rfl
  · revert b i j; decide

/-- Different parts have different semaphores. -/
theorem psem_injective : Function.Injective psem := fun x y h => by
  have := congrArg role h
  rw [role_psem, role_psem] at this
  exact Option.some.inj this

/-- Different devices or parts have different cells. -/
theorem cell_injective : Function.Injective (fun ck : Dev nD × Part => cell ck.1 ck.2) := by
  rintro ⟨c, x⟩ ⟨c', x'⟩ h
  have h1 : c = c' := congrArg (fun g : GSem nD τ sig => g.1.1) h
  have h2 : x = x' := psem_injective (congrArg Prod.snd h)
  rw [h1, h2]

/-- Two cells are equal exactly when device and part are. -/
theorem cell_eq_iff {c d : Dev nD} {x y : Part} : cell c x = cell d y ↔ c = d ∧ x = y :=
  ⟨fun h => by have := cell_injective (a₁ := (c, x)) (a₂ := (d, y)) h; exact ⟨congrArg Prod.fst this, congrArg Prod.snd this⟩,
   fun h => by rw [h.1, h.2]⟩

/-! ## The chunks and their contents -/

/-- The scratch buffer, whole. -/
abbrev scrM : Memref sig .tc .vmem S4x4x256x512 .bf16 := Memref.whole cc0_scratch0

/-- The staged weights, whole. -/
abbrev wM : Memref sig .tc .vmem S4x256x512 .f32 := Memref.whole cc0_stg3_0

/-- Each chunk is inside the scratch buffer. -/
theorem chunk_inb (s j : Fin 4) : ∀ a, (![s.val, j.val, 0, 0] : Fin 4 → ℕ) a + S1x1x256x512.size a ≤ S4x4x256x512.size a := by
  intro a; fin_cases a
  · show s.val + 1 ≤ 4; omega
  · show j.val + 1 ≤ 4; omega
  · show 0 + 256 ≤ 256; omega
  · show 0 + 512 ≤ 512; omega

/-- Chunk `(s, j)` as a rectangle of the scratch buffer. -/
abbrev chR (s j : Fin 4) : Rect S4x4x256x512 := Rect.unit (s := S4x4x256x512) ![s.val, j.val, 0, 0] S1x1x256x512.size (chunk_inb s j)
/-- Chunk `(s, j)` as the copies name it. -/
abbrev chM (s j : Fin 4) : Memref sig .tc .vmem S256x512 .bf16 :=
  (scrM.slice (chR s j) (fun _ => rfl)).squeeze S256x512 squeezes_S1x1x256x512_S256x512

/-- The coordinates of chunk `(s, j)`. -/
def chSet (s j : Fin 4) : Finset (cc0_scratch0 : Ref sig .tc).ty.shape.Idx := (chR s j).set

/-- The copies' chunk covers the chunk's indices. -/
theorem chM_set (s j : Fin 4) : (chM s j).view.set = chSet s j := by
  unfold chSet
  show (((View.whole cc0_scratch0).slice (chR s j)).reshape S256x512 _).set = _
  rw [View.set_reshape, View.set_slice_whole]

/-- An index is in chunk `(s, j)` when its first two coordinates are `s` and `j`. -/
theorem mem_chSet {s j : Fin 4} {i : S4x4x256x512.Idx} : i ∈ chSet s j ↔ (i 0).val = s.val ∧ (i 1).val = j.val := by
  unfold chSet
  rw [Rect.mem_set_unit]
  constructor
  · intro h
    have h0 := h 0; have h1 := h 1
    have e0 : s.val ≤ (i 0).val ∧ (i 0).val < s.val + 1 := h0
    have e1 : j.val ≤ (i 1).val ∧ (i 1).val < j.val + 1 := h1
    omega
  · rintro ⟨h0, h1⟩ a
    have h2 := (i 2).isLt; have h3 := (i 3).isLt
    fin_cases a
    · show s.val ≤ (i 0).val ∧ (i 0).val < s.val + 1; omega
    · show j.val ≤ (i 1).val ∧ (i 1).val < j.val + 1; omega
    · show 0 ≤ (i 2).val ∧ (i 2).val < 0 + 256; exact ⟨Nat.zero_le _, by rw [Nat.zero_add]; exact h2⟩
    · show 0 ≤ (i 3).val ∧ (i 3).val < 0 + 512; exact ⟨Nat.zero_le _, by rw [Nat.zero_add]; exact h3⟩

/-- Device `d`'s weights as staged for the kernel. -/
def wstg (d : Dev nD) : (cc0_stg3_0 : Ref sig .tc).ty.Contents (Elt F) :=
  (win0_3.blk (0 : Fin 1)).view.read (Elt F) ((st₀ m ρ).mem ((d : Thread nD τ).loc main_arg3))

/-- Each expert is inside the staged weights. -/
theorem w_inb (j : Fin 4) : ∀ a, (![j.val, 0, 0] : Fin 3 → ℕ) a + S1x256x512.size a ≤ S4x256x512.size a := by
  intro a; fin_cases a
  · show j.val + 1 ≤ 4; omega
  · show 0 + 256 ≤ 256; omega
  · show 0 + 512 ≤ 512; omega

/-- Expert `j` as a rectangle of the staged weights. -/
abbrev wR (j : Fin 4) : Rect S4x256x512 := Rect.unit (s := S4x256x512) ![j.val, 0, 0] S1x256x512.size (w_inb j)

/-- Expert `j` of device `d`, rounded to bf16. -/
def wchunk (d : Dev nD) (j : Fin 4) : FVec F S1x1x256x512 .bf16 :=
  k0_pay1 (wM.view.readAt (Elt F) (wR j).toLoadRect (wstg m ρ d))

set_option backward.proofsInPublic true in
/-- A coordinate of the scratch buffer within its chunk. -/
def low (i : S4x4x256x512.Idx) : S1x1x256x512.Idx := fun a =>
  ⟨(i a).val % S1x1x256x512.size a, Nat.mod_lt _ (by fin_cases a <;> decide)⟩

/-- The coordinates in the scratch buffer of a chunk's index. -/
theorem emb_coord (s j : Fin 4) (e : S1x1x256x512.Idx) (a : Fin 4) :
    (((chR s j).emb e) a).val = (![s.val, j.val, 0, 0] : Fin 4 → ℕ) a + (e a).val := by
  rw [Rect.emb_apply]
  show _ + 1 * _ = _
  rw [Nat.one_mul]; rfl

/-- A chunk's index is read back from its place in the scratch buffer. -/
theorem low_emb (s j : Fin 4) (e : S1x1x256x512.Idx) : low ((chR s j).emb e) = e := by
  funext a
  apply Fin.ext
  show (((chR s j).emb e) a).val % S1x1x256x512.size a = _
  rw [emb_coord s j e a]
  have := (e a).isLt
  fin_cases a
  · have e0 : (e 0).val < 1 := this
    show (s.val + (e 0).val) % 1 = (e 0).val
    omega
  · have e0 : (e 1).val < 1 := this
    show (j.val + (e 1).val) % 1 = (e 1).val
    omega
  · have e0 : (e 2).val < 256 := this
    show (0 + (e 2).val) % 256 = (e 2).val
    omega
  · have e0 : (e 3).val < 512 := this
    show (0 + (e 3).val) % 512 = (e 3).val
    omega

/-- The contents of device `c`'s scratch buffer once everything has landed. -/
def fin (c : Dev nD) : (cc0_scratch0 : Ref sig .tc).ty.Contents (Elt F) := fun i =>
  wchunk m ρ (own c (i 0)) (i 1) (low i)

/-- The slot of an index of chunk `(s, j)` is `s`. -/
theorem emb_slot (s j : Fin 4) (e : S1x1x256x512.Idx) : ((chR s j).emb e) 0 = s := by
  apply Fin.ext
  rw [emb_coord s j e 0]
  have : (e 0).val < 1 := (e 0).isLt
  show s.val + (e 0).val = s.val
  omega

/-- The expert of an index of chunk `(s, j)` is `j`. -/
theorem emb_expert (s j : Fin 4) (e : S1x1x256x512.Idx) : ((chR s j).emb e) 1 = j := by
  apply Fin.ext
  rw [emb_coord s j e 1]
  have : (e 1).val < 1 := (e 1).isLt
  show j.val + (e 1).val = j.val
  omega

/-- The scratch buffer's last contents, at chunk `(s, j)`: expert `j` of the device whose weights slot `s` gets. -/
theorem fin_emb (c : Dev nD) (s j : Fin 4) (e : S1x1x256x512.Idx) : fin m ρ c ((chR s j).emb e) = wchunk m ρ (own c s) j e := by
  unfold fin
  rw [low_emb, emb_slot, emb_expert]

/-- A load of chunk `(s, j)` reads the expert that it holds. -/
theorem fin_load (c : Dev nD) (s j : Fin 4) : scrM.view.readAt (Elt F) (chR s j).toLoadRect (fin m ρ c) = wchunk m ρ (own c s) j := by
  funext e
  exact fin_emb m ρ c s j e

/-- Storing expert `j` over chunk `(0, j)` leaves there what the buffer is to hold. -/
theorem fin_store (c : Dev nD) (j : Fin 4) (f : (cc0_scratch0 : Ref sig .tc).ty.Contents (Elt F)) :
    ∀ i ∈ chSet 0 j, (scrM.access (chR 0 j) : View sig .tc _ _ _).write (Elt F) f (wchunk m ρ c j) Finset.univ i = fin m ρ c i := by
  intro i hi
  obtain ⟨e, rfl⟩ : ∃ e, (chR 0 j).emb e = i := by
    unfold chSet at hi; rw [← Rect.map_emb_univ] at hi
    obtain ⟨e, -, h⟩ := Finset.mem_map.mp hi
    exact ⟨e, h⟩
  rw [fin_emb]
  exact View.write_emb_of_mem (v := (scrM.access (chR 0 j) : View sig .tc _ _ _)) (Val := Elt F) f (wchunk m ρ c j) (Finset.mem_univ e)

/-- What copy `k` of device `c` lands is what its target is to hold there. -/
theorem fin_land (c : Dev nD) (k : Copy) (f : (cc0_scratch0 : Ref sig .tc).ty.Contents (Elt F)) :
    ∀ i ∈ chSet k.1.succ k.2, (chM k.1.succ k.2).view.write (Elt F) f ((chM (srcSlot k) k.2).view.read (Elt F) (fin m ρ c)) Finset.univ i
      = fin m ρ (nbr k c) i := by
  intro i hi
  rw [← chM_set] at hi
  obtain ⟨x, -, rfl⟩ := Finset.mem_map.mp hi
  refine (View.write_emb_of_mem (v := (chM k.1.succ k.2).view) (Val := Elt F) f _ (Finset.mem_univ x)).trans ?_
  refine Eq.trans (b := fin m ρ c ((chR (srcSlot k) k.2).emb (Shape.reshapeEquiv squeezes_S1x1x256x512_S256x512.numel_eq x))) rfl ?_
  show _ = fin m ρ (nbr k c) ((chR k.1.succ k.2).emb (Shape.reshapeEquiv squeezes_S1x1x256x512_S256x512.numel_eq x))
  rw [fin_emb, fin_emb, own_nbr]

end Cert.Moe

end
-- ==== Proof.Schedule.lean ====
/-
# The schedule of the exchange: payloads, amounts, what is owed and at which level
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks held -/

/-- Chunk `(s, j)` of device `c` held at share `q` with contents `f`. -/
def pts (q : PosShare TreeShare) (c : Dev nD) (s j : Fin 4) (f : (cc0_scratch0 : Ref sig .tc).ty.Contents (Elt F)) : sProp 𝕄 :=
  (c : Thread nD τ).loc cc0_scratch0 ↦[chSet s j]{q} f

instance pts_storable (q) (c : Dev nD) (s j : Fin 4) (f) : BI.Storable (upEmb : UEmb _ 𝕄) (pts (F := F) q c s j f) := by unfold pts; infer_instance

/-- The share of the source that a copy reads: of slot 0 the left half goes right and a quarter goes left; of a landed chunk
    the left half is passed on. -/
def srcShare (k : Copy) : PosShare TreeShare := if k.1 = 1 then fullShare.right.left else fullShare.left

/-- The source of copy `k` of device `c`, at the share it reads. -/
def srcPts (c : Dev nD) (k : Copy) : sProp 𝕄 := pts (srcShare k) c (srcSlot k) k.2 (fin m ρ c)
/-- Chunk `k` of device `c` landed. -/
def landPts (c : Dev nD) (k : Copy) : sProp 𝕄 := pts fullShare c k.1.succ k.2 (fin m ρ c)
/-- Chunk `k` of device `c` at whatever it holds. -/
def anyPts (c : Dev nD) (k : Copy) : sProp 𝕄 := iprop(∃ f, pts fullShare c k.1.succ k.2 f)
/-- What a device hands over at the barrier: to the right (`true`) or left, the chunks that device `d` is to write there. -/
def lent (b : Bool) (d : Dev nD) : sProp 𝕄 := bigSep (Finset.univ.filter fun k : Copy => toR k = b) fun k => anyPts (nbr k d) k

instance srcPts_storable (c : Dev nD) (k) : BI.Storable (upEmb : UEmb _ 𝕄) (srcPts (F := F) m ρ c k) := by unfold srcPts; infer_instance
instance landPts_storable (c : Dev nD) (k) : BI.Storable (upEmb : UEmb _ 𝕄) (landPts (F := F) m ρ c k) := by unfold landPts; infer_instance
instance anyPts_storable (c : Dev nD) (k) : BI.Storable (upEmb : UEmb _ 𝕄) (anyPts (F := F) c k) := by unfold anyPts; infer_instance
instance lent_storable (b) (d : Dev nD) : BI.Storable (upEmb : UEmb _ 𝕄) (lent (F := F) b d) := by unfold lent; infer_instance

/-! ## The schedule -/

/-- The units a copy of one chunk counts on a semaphore. -/
abbrev N : ℕ := (chM 0 0).view.dmaCredit

/-- A copy counts at least one unit. -/
theorem N_pos : 0 < N := View.dmaCredit_pos _ (by decide)

/-- One round per cell: two units at the barrier, one duty at each send and receive cell. -/
def sched : Rounds.Schedule (GSem nD τ sig) Bool 𝕄 where
  duties g r := if r = 0 ∧ g.1.2 = .tc then
      (match role g.2 with | none => ∅ | some none => Finset.univ | some (some _) => {false}) else ∅
  unitless _ := False
  amount g _ _ := match role g.2 with | some none => 1 | _ => N
  payload g _ d := match role g.2 with
    | none => iprop(emp)
    | some none => lent d g.1.1
    | some (some (false, k)) => srcPts m ρ g.1.1 k
    | some (some (true, k)) => landPts m ρ g.1.1 k
  amount_pos g _ _ _ := by
    rcases role g.2 with _ | _ | x
    · exact N_pos
    · exact Nat.one_pos
    · exact N_pos

instance sched_storable (g : GSem nD τ sig) (r : ℕ) (d : Bool) : BI.Storable (upEmb : UEmb _ 𝕄) ((sched (F := F) m ρ).payload g r d) := by
  show BI.Storable upEmb (match role g.2 with
    | none => iprop(emp)
    | some none => lent d g.1.1
    | some (some (false, k)) => srcPts m ρ g.1.1 k
    | some (some (true, k)) => landPts m ρ g.1.1 k)
  split <;> infer_instance

section Sched
variable (c : Dev nD)

/-- A barrier has two duties, one for each neighbour. -/
theorem duties_bar : (sched (F := F) m ρ).duties (barCell c) 0 = Finset.univ := by
  dsimp only [sched]; rw [if_pos ⟨rfl, rfl⟩, role_psem]

/-- A copy's semaphore has one duty. -/
theorem duties_dma (x : Bool × Copy) : (sched (F := F) m ρ).duties (cell c (some x)) 0 = {false} := by
  dsimp only [sched]; rw [if_pos ⟨rfl, rfl⟩, role_psem]

/-- No semaphore has a duty after the first round. -/
theorem duties_later (g : GSem nD τ sig) : ∀ r, 1 ≤ r → (sched (F := F) m ρ).duties g r = ∅ :=
  fun r hr => by dsimp only [sched]; rw [if_neg fun h => by omega]

/-- A neighbour's signal is one unit. -/
theorem amount_bar (d : Bool) : (sched (F := F) m ρ).amount (barCell c) 0 d = 1 := by
  dsimp only [sched]; rw [role_psem]

/-- A copy counts `N` units. -/
theorem amount_dma (x : Bool × Copy) (d : Bool) : (sched (F := F) m ρ).amount (cell c (some x)) 0 d = N := by
  dsimp only [sched]; rw [role_psem]

/-- A barrier expects two units. -/
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]

/-- A copy's semaphore expects `N` units. -/
theorem expect_dma (x : Bool × Copy) : (sched (F := F) m ρ).expect (cell c (some x)) 0 = N := by
  unfold Schedule.expect Schedule.amountOf; rw [duties_dma, Finset.sum_singleton, amount_dma]

/-- A neighbour's signal brings the chunks lent to device `c`. -/
theorem payload_bar (d : Bool) : (sched (F := F) m ρ).payload (barCell c) 0 d = lent d c := by
  dsimp only [sched]; rw [role_psem]

/-- A copy that has left gives back the share of the chunk it was read from. -/
theorem payload_send (k : Copy) (d : Bool) : (sched (F := F) m ρ).payload (sendCell c k) 0 d = srcPts m ρ c k := by
  dsimp only [sched]; rw [role_psem]

/-- A copy that has arrived gives the chunk it was written to. -/
theorem payload_recv (k : Copy) (d : Bool) : (sched (F := F) m ρ).payload (recvCell c k) 0 d = landPts m ρ c k := by
  dsimp only [sched]; rw [role_psem]

/-- All that a barrier brings. -/
theorem rest_bar : bigSep ((sched (F := F) m ρ).duties (barCell c) 0 \ ∅) (fun d => (sched (F := F) m ρ).payload (barCell c) 0 d)
    = iprop(lent false c ∗ lent true c) := by
  rw [Finset.sdiff_empty, duties_bar, bigSep_univ_eq_bigSepL [false, true] (by decide) (by decide), bigSepL_cons_cons, bigSepL_singleton,
    payload_bar, payload_bar]
  rfl

/-- All that a copy's semaphore brings. -/
theorem rest_dma (x : Bool × Copy) : bigSep ((sched (F := F) m ρ).duties (cell c (some x)) 0 \ ∅) (fun d => (sched (F := F) m ρ).payload (cell c (some x)) 0 d)
    = (sched (F := F) m ρ).payload (cell c (some x)) 0 false := by
  rw [Finset.sdiff_empty, duties_dma, bigSep_singleton]

end Sched

/-! ## What a device owes; the levels -/

/-- The copies a device still has to start are owed to their receive cells; the last listed first. -/
def owe (c : Dev nD) : List Copy → CellTallies nD τ sig Unit
  | [] => 0
  | k :: l => owe c l + tallyAt (recvCell (nbr k c) k) () N

/-- The copies in the order in which the kernel starts them. -/
abbrev order : List Copy := [(0, 0), (1, 2), (0, 1), (1, 3), (2, 0), (0, 2), (2, 2), (1, 0), (2, 1), (0, 3), (2, 3), (1, 1)]

/-- At launch a device owes all its copies and a unit to each neighbour's barrier. -/
def O₁ (c : Dev nD) : CellTallies nD τ sig Unit := owe c order + tallyAt (barCell (nxt c)) () 1

/-- What device `c` owes at launch, with the unit of the other neighbour. -/
def O₀ (c : Dev nD) : CellTallies nD τ sig Unit := O₁ c + tallyAt (barCell (prv c)) () 1

/-- Only the cells of the cores that run the kernel have levels. -/
def L (g : GSem nD τ sig) : Finset Unit := if g.1.2 = .tc then {()} else ∅
/-- The receive cells a copy passes on from. -/
def early (k : Copy) : Bool := (k.1 = 0 && k.2.val < 2) || (k.1 = 1 && 2 ≤ k.2.val)

/-- The level of a part: the barrier, then the arrivals that are passed on, then the other arrivals. -/
def lvP : Option Part → ℕ
  | none => 0 | some none => 1 | some (some (false, _)) => 0 | some (some (true, k)) => if early k then 2 else 3

/-- The level of a cell. -/
def lv (g : GSem nD τ sig) (_ : Unit) : ℕ := lvP (role g.2)

/-- No other cell has a level. -/
theorem L_of_ne (g : GSem nD τ sig) (h : g.1.2 ≠ .tc) : L g = ∅ := if_neg h

/-- Every such cell has one. -/
theorem L_tc (c : Dev nD) (sm : SemLoc sig) : L ((c : Thread nD τ), sm) = {()} := if_pos rfl

/-- A cell's level is its part's. -/
theorem lv_cell (c : Dev nD) (x : Part) : lv (cell c x) () = lvP (some x) := by unfold lv; rw [role_psem]

/-- What is owed for a list of copies is owed to these copies' receive cells. -/
theorem owe_pos {c : Dev nD} {g : GSem nD τ sig} {u : Unit} : ∀ {l : List Copy}, 0 < owe c l g u → ∃ k ∈ l, g = recvCell (nbr k c) k
  | [], h => by unfold owe at h; exact absurd h (Nat.lt_irrefl 0)
  | k :: l, h => by
    unfold owe at h
    rw [Pi.add_apply, Finsupp.add_apply, tallyAt_apply] at h
    by_cases hk : g = recvCell (nbr k c) k
    · exact ⟨k, List.mem_cons_self, hk⟩
    · rw [if_neg (fun h' => hk h'.1), Nat.add_zero] at h
      obtain ⟨k', hk', e⟩ := owe_pos h
      exact ⟨k', List.mem_cons_of_mem _ hk', e⟩

/-- What is owed at launch is owed to a copy's receive cell or to a neighbour's barrier. -/
theorem O₀_pos {c : Dev nD} {g : GSem nD τ sig} {u : Unit} (h : 0 < O₀ c g u) :
    (∃ k ∈ order, g = recvCell (nbr k c) k) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1), Nat.add_zero] at h
  exact h1 (owe_pos h)

/-- A device may wait at a staging semaphore whatever it owes at the launch or at the end. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | rfl | rfl <;> exact Finset.mem_singleton_self _)
      (fun p hp => by rw [Finset.mem_singleton.mp hp]; dsimp only [lv]; rw [hq]; exact le_refl _)
      (fun g u hg => by
        rcases O₀_pos hg with ⟨k, -, rfl⟩ | rfl | rfl <;> rw [show lv _ u = lv _ () from rfl, lv_cell] <;> dsimp only [lvP]
        · split <;> decide
        · decide
        · decide)
  · rw [MayWait_zero]; iintro -; iempintro

/-- A device may wait at a cell while the copies `l` are still owed, if these are all of a higher level. -/
theorem mayWait_cell (c : Dev nD) (x : Part) (l : List Copy) (h : ∀ k ∈ l, lvP (some x) < lvP (some (some (true, k)))) :
    (levAts L lv : sProp 𝕄) ⊢ MayWait (c : Thread nD τ) (psem x) () (owe c l) :=
  MayOwe.of_cut (L := L) (lev := lv) (lvP (some x)) (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp]; exact le_of_eq (lv_cell c x))
    (fun g u hg => by
      obtain ⟨k, hk, rfl⟩ := owe_pos hg
      rw [show lv _ u = lv _ () from rfl, lv_cell]; exact h k hk)

end Cert.Moe

end
-- ==== Proof.Steps.lean ====
/-
# The steps of the exchange: one rule for each kind of operation
-/
module

public import proofs.«01_k».proof.Proof.Schedule

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel has no loop that needs a variant. -/
abbrev 𝒱₀ : Variants := Variants.none

/-! ## What a device holds for each copy -/

section Caps

variable (K : Dev nD × Part → ℕ) (c : Dev nD) (k : Copy)

/-- The names of the cells' invariants, `K`, and the invariant of a cell. -/
abbrev inv (d : Dev nD) (x : Part) : sProp 𝕄 := cellInv EC (sched m ρ) (K (d, x)) (cell d x)

/-- What starting copy `k` takes: the two cells' invariants, the position of the send cell, and the two duties' tokens. -/
def sendCap : sProp 𝕄 :=
  iprop(inv m ρ K c (some (false, k)) ∗ inv m ρ K (nbr k c) (some (true, k)) ∗ atPos EC (sendCell c k) 0 ∅ 0
    ∗ dutyTok EC (sendCell c k) 0 false ∗ reached EC (sendCell c k) 0
    ∗ dutyTok EC (recvCell (nbr k c) k) 0 false ∗ reached EC (recvCell (nbr k c) k) 0)
/-- A started copy, its send semaphore still to be waited for. -/
def flight : sProp 𝕄 :=
  iprop(inv m ρ K c (some (false, k)) ∗ atPos EC (sendCell c k) 0 ∅ 0 ∗ cred (tallyAt (sendCell c k) () N))
/-- What waiting for the arrival in chunk `k` takes. -/
def recvCap : sProp 𝕄 :=
  iprop(inv m ρ K c (some (true, k)) ∗ atPos EC (recvCell c k) 0 ∅ 0 ∗ cred (tallyAt (recvCell c k) () N))
/-- The barrier: both neighbours' cells with the token of the unit sent there, the own cell with its position and two units to wait for. -/
def barCap : sProp 𝕄 :=
  iprop((inv m ρ K (prv c) none ∗ dutyTok EC (barCell (prv c)) 0 true ∗ reached EC (barCell (prv c)) 0)
    ∗ (inv m ρ K (nxt c) none ∗ dutyTok EC (barCell (nxt c)) 0 false ∗ reached EC (barCell (nxt c)) 0)
    ∗ inv m ρ K c none ∗ atPos EC (barCell c) 0 ∅ 0 ∗ cred (tallyAt (barCell c) () 2))

/-- The device owes `O`, whatever it has waited for. -/
def ow (O : CellTallies nD τ sig Unit) : sProp 𝕄 := iprop(∃ W, owes (c : Thread nD τ) O W)

end Caps

/-- Holding a chunk, as the copies' lemmas write it. -/
theorem pts_eq (q : PosShare TreeShare) (c : Dev nD) (s j : Fin 4) (f : (cc0_scratch0 : Ref sig .tc).ty.Contents (Elt F)) :
    pts q c s j f = ((chM s j).view.loc (c : Thread nD τ) ↦[(chM s j).view.set]{q} f : sProp 𝕄) := by
  unfold pts
  rw [chM_set]

/-- Holding a chunk depends only on the contents inside it. -/
theorem pts_congr (q : PosShare TreeShare) (c : Dev nD) (s j : Fin 4) {f g : (cc0_scratch0 : Ref sig .tc).ty.Contents (Elt F)}
    (h : ∀ i ∈ chSet s j, f i = g i) : (pts q c s j f : sProp 𝕄) = pts q c s j g := by
  unfold pts
  exact pointsTo_congr h

/-- Every chunk's copy counts the same units. -/
theorem credit_chM (s j : Fin 4) : (chM s j).view.dmaCredit = N := rfl

/-- The same, at a given semaphore. -/
theorem amount_chM (s j : Fin 4) (q : DmaSem sig) : (chM s j).view.amount (.dma q) = N := credit_chM s j

/-! ## One lemma for each kind of step -/

section Steps

variable (K : Dev nD × Part → ℕ) (c : Dev nD)

/-- A unit at the left neighbour's barrier. -/
theorem wp_left {α : Type} {Q : α → sProp 𝕄} {kk : PUnit → Prog (TpuEff nD τ sig (Elt F) Λ₀ .tc) α}
    (n : Dev nD) (hn : n = prv c) (w : ℕ) (hw : w = 1) :
    iprop((inv m ρ K (prv c) none ∗ dutyTok EC (barCell (prv c)) 0 true ∗ reached EC (barCell (prv c)) 0) ∗ lent true (prv c) ∗ ow c (O₀ c))
      ⊢ iprop((ow c (O₁ c) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS w) kk) Q) := by
  subst hn; subst hw
  unfold ow
  iintro ⟨⟨#HI, Htok, #Hr⟩, Hpay, ⟨%W, HO⟩⟩ Hk
  iapply (Rounds.wp_signal 𝒱₀ EC (sched m ρ) (c : Thread nD τ) none (dst := (prv c : Thread nD τ)) (κ := K (prv c, none))
      (d := true) (by rw [duties_bar]; exact Finset.mem_univ _) (amount_bar m ρ (prv c) true) () (O₁ c) rfl) $$ [HO Htok Hpay]
  · isplitr; · iexact HI
    isplitl [HO]; · iexact HO
    isplitl [Htok]; · iexact Htok
    isplitl [Hpay]
    · rw [payload_bar]; iexact Hpay
    · iexact Hr
  iintro HO
  iapply Hk
  iexists W; iexact HO

/-- A unit at the right neighbour's barrier. -/
theorem wp_right {α : Type} {Q : α → sProp 𝕄} {kk : PUnit → Prog (TpuEff nD τ sig (Elt F) Λ₀ .tc) α}
    (n : Dev nD) (hn : n = nxt c) (w : ℕ) (hw : w = 1) :
    iprop((inv m ρ K (nxt c) none ∗ dutyTok EC (barCell (nxt c)) 0 false ∗ reached EC (barCell (nxt c)) 0) ∗ lent false (nxt c) ∗ ow c (O₁ c))
      ⊢ iprop((ow c (owe c order) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS w) kk) Q) := by
  subst hn; subst hw
  unfold ow
  iintro ⟨⟨#HI, Htok, #Hr⟩, Hpay, ⟨%W, HO⟩⟩ Hk
  iapply (Rounds.wp_signal 𝒱₀ EC (sched m ρ) (c : Thread nD τ) none (dst := (nxt c : Thread nD τ)) (κ := K (nxt c, none))
      (d := false) (by rw [duties_bar]; exact Finset.mem_univ _) (amount_bar m ρ (nxt c) false) () (owe c order) rfl) $$ [HO Htok Hpay]
  · isplitr; · iexact HI
    isplitl [HO]; · iexact HO
    isplitl [Htok]; · iexact Htok
    isplitl [Hpay]
    · rw [payload_bar]; iexact Hpay
    · iexact Hr
  iintro HO
  iapply Hk
  iexists W; iexact HO

/-- Waiting at the barrier hands over the neighbours' chunks that this device writes. -/
theorem wp_barrier {α : Type} {Q : α → sProp 𝕄} {kk : PUnit → Prog (TpuEff nD τ sig (Elt F) Λ₀ .tc) α} (w : ℕ) (hw : w = 2) :
    iprop((inv m ρ K c none ∗ atPos EC (barCell c) 0 ∅ 0 ∗ cred (tallyAt (barCell c) () 2)) ∗ levAts L lv ∗ ow c (owe c order))
      ⊢ iprop(((lent false c ∗ lent true c ∗ semVal (barCell c) 0 ∗ ow c (owe c order))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS w) kk) Q) := by
  subst hw
  unfold ow
  iintro ⟨⟨#HI, Hat, Hc⟩, #Hlev, ⟨%W, HO⟩⟩ Hk
  iapply (Rounds.wp_wait_rest_token 𝒱₀ EC (sched m ρ) (c : Thread nD τ) none (κ := K (c, none))
      (wpE_semWait_eq 𝒱₀ (c : Thread nD τ) none Set.univ) (Set.mem_univ _) () (O := owe c order) (W := W) (R := 0) (m := 0) (T := ∅)
      (by rw [expect_bar])) $$ [Hc HO Hat]
  · isplitr; · iexact HI
    isplitl [Hc]; · iexact Hc
    isplitl [HO]; · iexact HO
    isplitr; · iapply (mayWait_cell c none order (by decide)); iexact Hlev
    iexact Hat
  iintro ⟨HO, Hat, -, Hpay⟩
  ihave Hp2 := (Entails.of_eq (rest_bar m ρ c)) $$ Hpay
  icases Hp2 with ⟨Hf, Ht⟩
  imod (Rounds.cell_close EC (sched m ρ) (Set.mem_univ (K (c, none))) (fun h => h) (R := 0 + 1) (duties_later m ρ (barCell c))) $$ [Hat] with Hz
  · isplitr; · iexact HI
    iexact Hat
  iapply Hk
  isplitl [Hf]; · iexact Hf
  isplitl [Ht]; · iexact Ht
  isplitl [Hz]; · iexact Hz
  iexists _; iexact HO

/-- Starting copy `k`, the next one owed: its source share and the chunk it writes go in. -/
theorem wp_copy (k : Copy) (q : PosShare TreeShare) (s : Fin 4) (l : List Copy) (n : Dev nD) (hn : n = nbr k c) (hq : q = srcShare k) (hsl : s = srcSlot k)
    {src : Memref sig .tc .vmem S256x512 .bf16} {dst : Memref sig .tc .vmem S256x512 .bf16} (hs : src = chM s k.2) (hd : dst = chM k.1.succ k.2)
    {qs qr : DmaSem sig} (hqs : qs = dsem false k.1.succ k.2) (hqr : qr = dsem true k.1.succ k.2)
    {hsc : (dst : Memref sig (Dev.tc n : Thread nD τ).2.kind .vmem S256x512 .bf16).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {kk : PUnit → Prog (TpuEff nD τ sig (Elt F) Λ₀ .tc) α} :
    iprop(sendCap m ρ K c k ∗ pts q c s k.2 (fin m ρ c) ∗ anyPts (nbr k c) k ∗ ow c (owe c (k :: l)))
      ⊢ iprop(((flight m ρ K c k ∗ ow c (owe c l)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kk) Q) := by
  subst hn; subst hq; subst hsl; subst hs; subst hd; subst hqs; subst hqr
  unfold sendCap flight ow anyPts
  simp only [pts_eq]
  iintro ⟨⟨#HIs, #HIr, Hat, Hts, #Hrs, Htr, #Hrr⟩, Hsrc, ⟨%fd, Hd⟩, ⟨%W, HO⟩⟩ Hk
  iapply (Rounds.wp_send_pointsTo 𝒱₀ EC (sched m ρ) (c : Thread nD τ) none (κ₁ := K (c, some (false, k))) (κ₂ := K (nbr k c, some (true, k)))
    (r₁ := 0) (r₂ := 0) (d₁ := false) (d₂ := false) (fd := fd) (q := srcShare k) (fs := fin m ρ c)
    (by rw [duties_dma m ρ c (false, k)]; exact Finset.mem_singleton_self _) (by rw [duties_dma m ρ (nbr k c) (true, k)]; exact Finset.mem_singleton_self _)
    () () N (amount_chM _ _ _) (amount_dma m ρ c (false, k) false) (amount_dma m ρ (nbr k c) (true, k) false) (owe c l) rfl (W := W)
    (by rw [payload_send]; unfold srcPts; rw [pts_eq])
    (by rw [payload_recv]; unfold landPts; rw [← pts_eq, pts_congr fullShare (nbr k c) _ _ (fin_land m ρ c k fd)])) $$ [Hsrc Hd HO Hts Htr]
  · isplitr; · iexact HIs
    isplitr; · iexact HIr
    isplitl [Hsrc]; · iexact Hsrc
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [Hat Hc]
  · isplitr; · iexact HIs
    isplitl [Hat] <;> iassumption
  iexists W; iexact HO

/-- Waiting at one of the copies' cells while the copies `l` are owed. -/
theorem wp_wait (x : Bool × Copy) (l : List Copy) (hl : ∀ k ∈ l, lvP (some (some x)) < lvP (some (some (true, k))))
    {q : DmaSem sig} (hq : q = dsem x.1 x.2.1.succ x.2.2) {src dst : Memref sig .tc .vmem S256x512 .bf16} (hN : dst.view.dmaCredit = N)
    {hsrc : src.view.WordExact} {hdst : dst.view.WordExact}
    {α : Type} {Q : α → sProp 𝕄} {kk : PUnit → Prog (TpuEff nD τ sig (Elt F) Λ₀ .tc) α} :
    iprop((inv m ρ K c (some x) ∗ atPos EC (cell c (some x)) 0 ∅ 0 ∗ cred (tallyAt (cell c (some x)) () N)) ∗ levAts L lv ∗ ow c (owe c l))
      ⊢ iprop((((sched m ρ).payload (cell c (some x)) 0 false ∗ semVal (cell c (some x)) 0 ∗ ow c (owe c l))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold ow
  iintro ⟨⟨#HI, Hat, Hc⟩, #Hlev, ⟨%W, HO⟩⟩ Hk
  iapply (Rounds.wp_wait_rest_token 𝒱₀ EC (sched m ρ) (c : Thread nD τ) none (κ := K (c, some x))
      (wpE_waitDma2_eq 𝒱₀ (c : Thread nD τ) none Set.univ) (Set.mem_univ _) () (O := owe c l) (W := W) (R := 0) (m := 0) (T := ∅)
      (by rw [Nat.zero_add, hN]; exact (expect_dma m ρ c x).symm)) $$ [Hc HO Hat]
  · isplitr; · iexact HI
    isplitl [Hc]; · rw [hN]; iexact Hc
    isplitl [HO]; · iexact HO
    isplitr; · iapply (mayWait_cell c (some x) l hl); iexact Hlev
    iexact Hat
  iintro ⟨HO, Hat, -, Hpay⟩
  ihave Hp := (Entails.of_eq (rest_dma m ρ c x)) $$ Hpay
  imod (Rounds.cell_close EC (sched m ρ) (Set.mem_univ (K (c, some x))) (fun h => h) (R := 0 + 1) (duties_later m ρ (cell c (some x)))) $$ [Hat] with Hz
  · isplitr; · iexact HI
    iexact Hat
  iapply Hk
  isplitl [Hp]; · iexact Hp
  isplitl [Hz]; · iexact Hz
  iexists _; iexact HO

/-- Waiting for the arrival in chunk `k`: the chunk comes with its contents. -/
theorem wp_recv (k : Copy) (s : Fin 4) (hsl : s = k.1.succ) (l : List Copy) (hl : ∀ k' ∈ l, lvP (some (some (true, k))) < lvP (some (some (true, k'))))
    {q : DmaSem sig} (hq : q = dsem true k.1.succ k.2) {src dst : Memref sig .tc .vmem S256x512 .bf16} (hN : dst.view.dmaCredit = N)
    {hsrc : src.view.WordExact} {hdst : dst.view.WordExact}
    {α : Type} {Q : α → sProp 𝕄} {kk : PUnit → Prog (TpuEff nD τ sig (Elt F) Λ₀ .tc) α} :
    iprop(recvCap m ρ K c k ∗ levAts L lv ∗ ow c (owe c l))
      ⊢ iprop(((pts fullShare c s k.2 (fin m ρ c) ∗ semVal (recvCell c k) 0 ∗ ow c (owe c l))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hsl
  rw [show pts fullShare c k.1.succ k.2 (fin m ρ c) = landPts m ρ c k from rfl, ← payload_recv m ρ c k false]
  exact wp_wait m ρ K c (true, k) l hl hq hN

/-- Waiting for a copy to have left: its source share comes back. -/
theorem wp_sent (k : Copy) (sh : PosShare TreeShare) (s : Fin 4) (hsh : sh = srcShare k) (hsl : s = srcSlot k)
    {q : DmaSem sig} (hq : q = dsem false k.1.succ k.2) {src dst : Memref sig .tc .vmem S256x512 .bf16} (hN : dst.view.dmaCredit = N)
    {hsrc : src.view.WordExact} {hdst : dst.view.WordExact}
    {α : Type} {Q : α → sProp 𝕄} {kk : PUnit → Prog (TpuEff nD τ sig (Elt F) Λ₀ .tc) α} :
    iprop(flight m ρ K c k ∗ levAts L lv ∗ ow c (owe c []))
      ⊢ iprop(((pts sh c s k.2 (fin m ρ c) ∗ semVal (sendCell c k) 0 ∗ ow c (owe c []))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hsh; subst hsl
  rw [show pts (srcShare k) c (srcSlot k) k.2 (fin m ρ c) = srcPts m ρ c k from rfl, ← payload_send m ρ c k false]
  exact wp_wait m ρ K c (false, k) [] (fun _ h => nomatch h) hq hN

/-- A load of a chunk reads only the chunk's indices. -/
theorem chR_set (s j : Fin 4) : scrM.view.setOn (chR s j).toLoadRect.set ⊆ chSet s j := by
  intro i hi
  obtain ⟨x, hx, rfl⟩ := Finset.mem_map.mp hi
  unfold chSet
  exact hx

/-- Loading a chunk, whatever it holds. -/
theorem wp_old (q : PosShare TreeShare) (s j : Fin 4) (f : (cc0_scratch0 : Ref sig .tc).ty.Contents (Elt F)) {hl : scrM.view.LoadsAt (chR s j).toLoadRect}
    {α : Type} {Q : α → sProp 𝕄} {kk : ((chR s j).toLoadRect.shape.Idx → Elt F .bf16) → Prog (TpuEff nD τ sig (Elt F) Λ₀ .tc) α} :
    pts q c s j f
      ⊢ iprop((pts q c s j f -∗ wp frame (wpE (defs₀ (F := F)) 𝒱₀ (c : Thread nD τ) none) Set.univ (kk (scrM.view.readAt (Elt F) (chR s j).toLoadRect f)) Q)
          -∗ wp frame (wpE (defs₀ (F := F)) 𝒱₀ (c : Thread nD τ) none) Set.univ (.op (.load scrM (chR s j).toLoadRect hl) kk) Q) :=
  wp_load (defs := defs₀ (F := F)) 𝒱₀ (c : Thread nD τ) none Set.univ (m := scrM) (r := (chR s j).toLoadRect) (chR_set s j)

/-- Loading a chunk that holds its expert. -/
theorem wp_chunk (q : PosShare TreeShare) (s j : Fin 4) {hl : scrM.view.LoadsAt (chR s j).toLoadRect}
    {α : Type} {Q : α → sProp 𝕄} {kk : ((chR s j).toLoadRect.shape.Idx → Elt F .bf16) → Prog (TpuEff nD τ sig (Elt F) Λ₀ .tc) α} :
    pts q c s j (fin m ρ c)
      ⊢ iprop((pts q c s j (fin m ρ c) -∗ wp frame (wpE (defs₀ (F := F)) 𝒱₀ (c : Thread nD τ) none) Set.univ (kk (wchunk m ρ (own c s) j)) Q)
          -∗ wp frame (wpE (defs₀ (F := F)) 𝒱₀ (c : Thread nD τ) none) Set.univ (.op (.load scrM (chR s j).toLoadRect hl) kk) Q) := by
  rw [← fin_load]
  exact wp_old c q s j (fin m ρ c)

/-- Storing an expert of this device over its chunk, whatever that holds. -/
theorem wp_put (j : Fin 4) (f : (cc0_scratch0 : Ref sig .tc).ty.Contents (Elt F)) {w : (chR 0 j).shape.Idx → Elt F .bf16} (hw : w = wchunk m ρ c j)
    {hx : (scrM.access (chR 0 j)).Stores Finset.univ} {hm : (Finset.univ : Finset (chR 0 j).shape.Idx) = Finset.univ ∨ ∀ a, (chR 0 j).stride a = 1}
    {α : Type} {Q : α → sProp 𝕄} {kk : PUnit → Prog (TpuEff nD τ sig (Elt F) Λ₀ .tc) α} :
    pts fullShare c 0 j f
      ⊢ iprop((pts fullShare c 0 j (fin m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.store scrM (chR 0 j) w Finset.univ hx hm) kk) Q) := by
  subst hw
  rw [← pts_congr fullShare c 0 j (fin_store m ρ c j f)]
  exact wp_store (defs := defs₀ (F := F)) 𝒱₀ (c : Thread nD τ) none Set.univ (m := scrM) (r := chR 0 j) (Mk := Finset.univ) (f := f)
    (by
      show ((View.whole cc0_scratch0).slice (chR 0 j)).setOn Finset.univ ⊆ chSet 0 j
      unfold chSet; exact (View.set_slice_whole cc0_scratch0 (chR 0 j)).subset)

end Steps

end Cert.Moe

end
-- ==== Proof.State.lean ====
/-
# What a device holds before and after the kernel, and what the kernel computes
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Parts of the scratch buffer -/

/-- Every index is in the chunk its first two coordinates name. -/
theorem mem_chSet_self (i : S4x4x256x512.Idx) : i ∈ chSet (i 0) (i 1) := mem_chSet.mpr ⟨rfl, rfl⟩

/-- The scratch buffer whole is its sixteen chunks: the four of slot 0, and one for each copy. -/
theorem scratch_chunks (c : Dev nD) (f : (cc0_scratch0 : Ref sig .tc).ty.Contents (Elt F)) :
    ((c : Thread nD τ).loc cc0_scratch0 ↦{fullShare} f : sProp 𝕄)
      = iprop(bigSep Finset.univ (fun j : Fin 4 => pts fullShare c 0 j f) ∗ bigSep Finset.univ fun k : Copy => pts fullShare c k.1.succ k.2 f) := by
  have h1 : ((c : Thread nD τ).loc cc0_scratch0 ↦{fullShare} f : sProp 𝕄) = bigSep Finset.univ fun b : Fin 4 × Fin 4 => pts fullShare c b.1 b.2 f :=
    Ring.pointsTo_blocks (ℓ := (c : Thread nD τ).loc cc0_scratch0) (fun b : Fin 4 × Fin 4 => chSet b.1 b.2)
      (by
        rintro ⟨s, j⟩ ⟨s', j'⟩ hne
        refine Finset.disjoint_left.mpr fun i h h' => hne ?_
        have e := mem_chSet.mp h; have e' := mem_chSet.mp h'
        exact Prod.ext (Fin.ext (e.1.symm.trans e'.1)) (Fin.ext (e.2.symm.trans e'.2)))
      (by
        refine Finset.eq_univ_iff_forall.mpr fun i => ?_
        exact Finset.mem_biUnion.mpr ⟨((i : S4x4x256x512.Idx) 0, (i : S4x4x256x512.Idx) 1), Finset.mem_univ _, mem_chSet_self i⟩) f
  rw [h1, bigSep_univ_prod, bigSep_univ_prod, bigSep_univ_eq_bigSepL [(0 : Fin 4), 1, 2, 3] (by decide) (by decide),
    bigSep_univ_eq_bigSepL [(0 : Fin 3), 1, 2] (by decide) (by decide)]
  rfl

/-- A share of a chunk in halves. -/
theorem pts_halves (q : PosShare TreeShare) (c : Dev nD) (s j : Fin 4) (f : (cc0_scratch0 : Ref sig .tc).ty.Contents (Elt F)) :
    (pts q c s j f : sProp 𝕄) ⊣⊢ iprop(pts q.left c s j f ∗ pts q.right c s j f) := by
  unfold pts
  exact pointsTo_share (PosShare.mem_left_op_right q)

/-- What a device lends at the barrier to its two neighbours are its chunks of all copies. -/
theorem lend (c : Dev nD) : (bigSep Finset.univ (fun k : Copy => anyPts c k) : sProp 𝕄) = iprop(lent true (prv c) ∗ lent (F := F) false (nxt c)) := by
  unfold lent
  rw [bigSep_filter_split Finset.univ (fun k : Copy => toR k = true),
    show (Finset.univ.filter fun k : Copy => ¬ toR k = true) = Finset.univ.filter fun k : Copy => toR k = false from by decide]
  congr 1
  · refine bigSep_congr fun k hk => ?_
    rw [nbr_of_toR (Finset.mem_filter.mp hk).2, nxt_prv]
  · refine bigSep_congr fun k hk => ?_
    rw [nbr_of_not_toR (Finset.mem_filter.mp hk).2, prv_nxt]

/-- What it is lent are its targets' chunks. -/
theorem lent_all (c : Dev nD) : iprop(lent true c ∗ lent (F := F) false c) = (bigSep Finset.univ (fun k : Copy => anyPts (nbr k c) k) : sProp 𝕄) := by
  unfold lent
  rw [bigSep_filter_split Finset.univ (fun k : Copy => toR k = true),
    show (Finset.univ.filter fun k : Copy => ¬ toR k = true) = Finset.univ.filter fun k : Copy => toR k = false from by decide]
  rfl

/-! ## What the kernel computes -/

/-- The grid has one point. -/
theorem cfg0_N : cfg0.N = 1 := by decide

/-- The grid's only point. -/
def t₀ : Fin cfg0.N := ⟨0, by rw [cfg0_N]; decide⟩

/-- Every point is that one. -/
theorem fin_N (t : Fin cfg0.N) : t = t₀ := by obtain ⟨t, ht⟩ := t; have := cfg0_N; exact Fin.ext (by simp only [t₀]; omega)

/-- The tokens as staged. -/
def xstg (d : Dev nD) : (cc0_stg0_0 : Ref sig .tc).ty.Contents (Elt F) :=
  (win0_0.blk (0 : Fin 1)).view.read (Elt F) ((st₀ m ρ).mem ((d : Thread nD τ).loc main_arg0))

/-- The router's weights as staged. -/
def rstg (d : Dev nD) : (cc0_stg1_0 : Ref sig .tc).ty.Contents (Elt F) :=
  (win0_1.blk (0 : Fin 1)).view.read (Elt F) ((st₀ m ρ).mem ((d : Thread nD τ).loc main_arg1))

/-- The choices as staged. -/
def istg (d : Dev nD) : (cc0_stg2_0 : Ref sig .tc).ty.Contents (Elt F) :=
  (win0_2.blk (0 : Fin 1)).view.read (Elt F) ((st₀ m ρ).mem ((d : Thread nD τ).loc main_arg2))

/-- The staged tokens, whole. -/
abbrev xM : Memref sig .tc .vmem S1024x256 .f32 := Memref.whole cc0_stg0_0

/-- The staged router weights, whole. -/
abbrev rM : Memref sig .tc .vmem S256x16 .f32 := Memref.whole cc0_stg1_0

/-- The staged choices, whole. -/
abbrev iM : Memref sig .tc .vmem S1024x2 .i32 := Memref.whole cc0_stg2_0

/-- The result's staging buffer, whole. -/
abbrev oM : Memref sig .tc .vmem S1024x512 .f32 := Memref.whole cc0_stg4_0

/-- All of the tokens, as the kernel loads them. -/
abbrev xR : Rect S1024x256 := Rect.unit (s := S1024x256) ![0, 0] S1024x256.size inb_S1024x256_S1024x256_0_0

/-- All of the router's weights, as the kernel loads them. -/
abbrev rR : Rect S256x16 := Rect.unit (s := S256x16) ![0, 0] S256x16.size inb_S256x16_S256x16_0_0

/-- The column of first choices. -/
abbrev i0R : Rect S1024x2 := Rect.unit (s := S1024x2) ![0, 0] S1024x1.size inb_S1024x2_S1024x1_0_0

/-- The column of second choices. -/
abbrev i1R : Rect S1024x2 := Rect.unit (s := S1024x2) ![0, 1] S1024x1.size inb_S1024x2_S1024x1_0_1

/-- All of the result, as the kernel stores it. -/
abbrev oR : Rect S1024x512 := Rect.unit (s := S1024x512) ![0, 0] S1024x512.size inb_S1024x512_S1024x512_0_0

/-- The device's tokens. -/
def tokens (c : Dev nD) : FVec F S1024x256 .f32 := k0_pay6 (xM.view.readAt (Elt F) xR.toLoadRect (xstg m ρ c))

/-- The gates of all experts. -/
def gates (c : Dev nD) : FVec F S1024x16 .f32 :=
  k0_pay7 (xM.view.readAt (Elt F) xR.toLoadRect (xstg m ρ c)) (rM.view.readAt (Elt F) rR.toLoadRect (rstg m ρ c))
    (iM.view.readAt (Elt F) i0R.toLoadRect (istg m ρ c)) (iM.view.readAt (Elt F) i1R.toLoadRect (istg m ρ c))
/-- The device's number as the kernel computes it. -/
def devWord (c : Dev nD) : BitVec 32 := Scalar.remsi (Scalar.divsi (Dev.word c) 1#32) 4#32

/-- The gates in the order of the scratch buffer's chunks. -/
def gatesH (c : Dev nD) : FVec F S1024x16 .f32 :=
  k0_pay10 (devWord c) (gates m ρ c) (iota .tc S16x16 32 [0] iota_S16x16_d0_w32) (iota .tc S16x16 32 [1] iota_S16x16_d1_w32) 4#32 k0_pay8 k0_pay9

/-- The sixteen products as the kernel sums them: slot 0, then the chunks in the order it takes them in. -/
def combine (x : FVec F S1024x256 .f32) (g : FVec F S1024x16 .f32) (w : Fin 4 → Fin 4 → FVec F S1x1x256x512 .bf16) : FVec F S1024x512 .f32 :=
  k0_pay34 (k0_pay21 x g)
    (k0_pay33 (k0_pay19 x g) (k0_pay27 x g)
      (k0_pay32 (k0_pay20 x g) (k0_pay25 x g)
        (k0_pay31 (k0_pay18 x g) (k0_pay26 x g)
          (k0_pay30 (k0_pay23 x g) (k0_pay24 x g)
            (k0_pay29 (k0_pay11 x g) (k0_pay12 x g) (k0_pay14 x (k0_pay13 g)) (k0_pay15 x g) (k0_pay16 x g) (k0_pay17 x g) (k0_pay22 x g)
              (k0_pay28 (w 0 0)) (w 0 1) (w 0 2) (w 0 3) (w 1 0) (w 2 2) (w 1 1))
            (w 2 3) (w 3 0))
          (w 3 2) (w 1 2))
        (w 2 0) (w 3 1))
      (w 3 3) (w 1 3))
    (w 2 1)

/-- The device's result. -/
def outAt (c : Dev nD) : (cc0_stg4_0 : Ref sig .tc).ty.Contents (Elt F) :=
  combine (tokens m ρ c) (gatesH m ρ c) fun s j => wchunk m ρ (own c s) j

/-! ## The pipeline's proof data -/

/-- The semaphores of slot 0's row, which nothing uses. -/
def idle (c : Dev nD) : sProp 𝕄 := bigSep Finset.univ fun x : Bool × Fin 4 => semVal ((c : Thread nD τ), osem (x.1, 0, x.2)) 0

/-- Device `c`'s rights at the protocol's cells. -/
def ghost (K : Dev nD × Part → ℕ) (c : Dev nD) : sProp 𝕄 :=
  iprop(barCap m ρ K c ∗ bigSep Finset.univ (fun k : Copy => sendCap m ρ K c k) ∗ bigSep Finset.univ fun k : Copy => recvCap m ρ K c k)

/-- What the protocol gives device `c` to start with. -/
def start (c : Dev nD) : sProp 𝕄 := iprop((∃ K, ghost m ρ K c) ∗ levAts L lv ∗ idle c)

/-- Before the body: the protocol's start, and the scratch buffer at whatever it holds. -/
def Φ₀ (c : Dev nD) : sProp 𝕄 := iprop(start m ρ c ∗ ∃ f : Buf (Elt F) ((c : Thread nD τ).loc cc0_scratch0), (c : Thread nD τ).loc cc0_scratch0 ↦{fullShare} f)
/-- After it: all semaphores at zero, and the scratch buffer filled. -/
def Φ₁ (c : Dev nD) : sProp 𝕄 :=
  iprop(((c : Thread nD τ).loc cc0_scratch0 ↦{fullShare} fin m ρ c) ∗ semVal (barCell c) 0
    ∗ bigSep Finset.univ (fun k : Copy => semVal (sendCell c k) 0) ∗ bigSep Finset.univ (fun k : Copy => semVal (recvCell c k) 0) ∗ idle c)

/-- The proof data of the launch: the arrays at launch, what the staging buffers hold after the body, the state
    before and after it, and what is owed. -/
def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Holding a whole staging buffer, as the body's lemmas write it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body starts with. -/
def bodyPre (K : Dev nD × Part → ℕ) (c : Dev nD) : sProp 𝕄 :=
  iprop((ghost m ρ K c ∗ levAts L lv ∗ idle c ∗ ∃ f : Buf (Elt F) ((c : Thread nD τ).loc cc0_scratch0), (c : Thread nD τ).loc cc0_scratch0 ↦{fullShare} f)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What the body ends with. -/
def bodyPost (c : Dev nD) : sProp 𝕄 :=
  iprop(Φ₁ m ρ c ∗ (dats m ρ 0 c).owesAt () t₀.succ ∗ stg c cc0_stg0_0 (xstg m ρ c) ∗ stg c cc0_stg1_0 (rstg m ρ c) ∗ stg c cc0_stg2_0 (istg m ρ c)
    ∗ stg c cc0_stg3_0 (wstg m ρ c) ∗ stg c cc0_stg4_0 (outAt m ρ c))

/-- The staged inputs, the scratch buffer's store and the result's, as contents. -/
theorem write_out (f w : (cc0_stg4_0 : Ref sig .tc).ty.Contents (Elt F)) :
    ((oM : Memref sig .tc .vmem S1024x512 .f32).access oR : View sig .tc _ _ _).write (Elt F) f w Finset.univ = w :=
  Memref.write_access_unit_zero_univ (Elt F) cc0_stg4_0 (funext fun a => by fin_cases a <;> rfl) _ f w

end Cert.Moe

end
-- ==== Proof.Body.lean ====
/-
# The kernel's body, executed symbolically at one device
-/
module

public import proofs.«01_k».proof.Proof.State

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- All twelve copies, conjoined one by one. -/
theorem copies (Φ : Copy → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) :=
  bigSep_univ_eq_bigSepL [((0, 0) : Copy), ((0, 1) : Copy), ((0, 2) : Copy), ((0, 3) : Copy), ((1, 0) : Copy), ((1, 1) : Copy), ((1, 2) : Copy), ((1, 3) : Copy), ((2, 0) : Copy), ((2, 1) : Copy), ((2, 2) : Copy), ((2, 3) : Copy)] (by decide) (by decide) Φ

/-- Four, conjoined one by one. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- A chunk that has landed or been stored holds something. -/
theorem anyPts_intro (c : Dev nD) (f : (cc0_scratch0 : Ref sig .tc).ty.Contents (Elt F)) :
    (bigSep Finset.univ (fun k : Copy => pts fullShare c k.1.succ k.2 f) : sProp 𝕄) ⊢ bigSep Finset.univ fun k : Copy => anyPts c k := by
  refine bigSep_mono fun k _ => ?_
  show (pts fullShare c k.1.succ k.2 f : sProp 𝕄) ⊢ anyPts c k
  unfold anyPts
  iintro H
  iexists f; iexact H

set_option maxHeartbeats 4000000 in
set_option maxRecDepth 4000 in
/-- The body, one rule per operation in program order. -/
theorem sound_body (K : Dev nD × Part → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, Prog.bind_assoc, wp_deviceId]
  unfold bodyPre ghost barCap
  rw [copies, copies]
  iintro ⟨⟨⟨⟨⟨HbL, HbR, HbO⟩, ⟨S10, S11, S12, S13, S20, S21, S22, S23, S30, S31, S32, S33⟩, ⟨R10, R11, R12, R13, R20, R21, R22, R23, R30, R31, R32, R33⟩⟩, #Hlev, Hidle, ⟨%f, Hscr⟩⟩, Ho,
    ⟨%d0, %g0, %hg0, Hx⟩, ⟨%d1, %g1, %hg1, Hr⟩, ⟨%d2, %g2, %hg2, Hi⟩, ⟨%d3, %g3, %hg3, Hw⟩, ⟨%d4, %g4, %hg4, Hout⟩⟩, Hk⟩
  have hx : g0 = xstg m ρ c := by rw [hg0]; unfold Dat.before; rw [if_pos (fetch0_0 t₀)]; rfl
  have hr : g1 = rstg m ρ c := by rw [hg1]; unfold Dat.before; rw [if_pos (fetch0_1 t₀)]; rfl
  have hi : g2 = istg m ρ c := by rw [hg2]; unfold Dat.before; rw [if_pos (fetch0_2 t₀)]; rfl
  have hw : g3 = wstg m ρ c := by rw [hg3]; unfold Dat.before; rw [if_pos (fetch0_3 t₀)]; rfl
  subst hx; subst hr; subst hi; subst hw
  unfold Dat.owesAt Pipeline.owesWithin
  icases Ho with ⟨%W, %hW, HO⟩
  rw [show (dats m ρ 0 c).owed t₀.castSucc = O₀ c from rfl]
  ihave Ho : ow c (O₀ c) $$ [HO]
  · unfold ow; iexists W; iexact HO
  -- the scratch buffer in chunks, those of the copies lent to the neighbours
  icases (Entails.of_eq (scratch_chunks c f)) $$ Hscr with ⟨Hz, Hl⟩
  icases (Entails.of_eq (four fun j => pts fullShare c 0 j f)) $$ Hz with ⟨Z0, Z1, Z2, Z3⟩
  ihave Hl := (anyPts_intro c f) $$ Hl
  icases (Entails.of_eq (lend c)) $$ Hl with ⟨HlT, HlF⟩
  -- the two signals and the barrier
  iapply (wp_left m ρ K c _ (Fin.ext (k0_dev1_eq c)) _ rfl) $$ [HbL HlT Ho]
  · isplitl [HbL]; · iexact HbL
    isplitl [HlT]; · iexact HlT
    iexact Ho
  iintro Ho
  iapply (wp_right m ρ K c _ (Fin.ext (k0_dev2_eq c)) _ rfl) $$ [HbR HlF Ho]
  · isplitl [HbR]; · iexact HbR
    isplitl [HlF]; · iexact HlF
    iexact Ho
  iintro Ho
  iapply (wp_barrier m ρ K c _ rfl) $$ [HbO Ho]
  · isplitl [HbO]; · iexact HbO
    isplitr; · iexact Hlev
    iexact Ho
  iintro ⟨HlF, HlT, HbO, Ho⟩
  ihave Hd : bigSep Finset.univ (fun k : Copy => anyPts (nbr k c) k) $$ [HlF HlT]
  · iapply (Entails.of_eq (lent_all c)); isplitl [HlT] <;> iassumption
  icases (Entails.of_eq (copies fun k => anyPts (nbr k c) k)) $$ Hd with ⟨D10, D11, D12, D13, D20, D21, D22, D23, D30, D31, D32, D33⟩
  -- the own experts stored and the first copies started
  iapply (wp_load 𝒱₀ (c : Thread nD τ) none Set.univ (m := wM) (Finset.subset_univ _)) $$ Hw; iintro Hw
  iapply (wp_old c fullShare 0 0 f) $$ Z0; iintro Z0
  iapply (wp_put m ρ c 0 f rfl) $$ Z0; iintro Z0
  icases (pts_halves fullShare c 0 0 (fin m ρ c)).1 $$ Z0 with ⟨P10, Z0⟩
  icases (pts_halves fullShare.right c 0 0 (fin m ρ c)).1 $$ Z0 with ⟨P20, Z0⟩
  iapply (wp_copy m ρ K c (0, 0) fullShare.left 0 _ _ ((Fin.ext (k0_dev3_eq c)).trans (nbr_of_toR rfl c).symm) rfl rfl rfl rfl rfl rfl) $$ [S10 P10 D10 Ho]
  · isplitl [S10]; · iexact S10
    isplitl [P10]; · iexact P10
    isplitl [D10]; · iexact D10
    iexact Ho
  iintro ⟨S10, Ho⟩
  iapply (wp_load 𝒱₀ (c : Thread nD τ) none Set.univ (m := wM) (Finset.subset_univ _)) $$ Hw; iintro Hw
  iapply (wp_old c fullShare 0 2 f) $$ Z2; iintro Z2
  iapply (wp_put m ρ c 2 f rfl) $$ Z2; iintro Z2
  icases (pts_halves fullShare c 0 2 (fin m ρ c)).1 $$ Z2 with ⟨P12, Z2⟩
  icases (pts_halves fullShare.right c 0 2 (fin m ρ c)).1 $$ Z2 with ⟨P22, Z2⟩
  iapply (wp_copy m ρ K c (1, 2) fullShare.right.left 0 _ _ ((Fin.ext (k0_dev4_eq c)).trans (nbr_of_not_toR rfl c).symm) rfl rfl rfl rfl rfl rfl) $$ [S22 P22 D22 Ho]
  · isplitl [S22]; · iexact S22
    isplitl [P22]; · iexact P22
    isplitl [D22]; · iexact D22
    iexact Ho
  iintro ⟨S22, Ho⟩
  iapply (wp_load 𝒱₀ (c : Thread nD τ) none Set.univ (m := wM) (Finset.subset_univ _)) $$ Hw; iintro Hw
  iapply (wp_old c fullShare 0 1 f) $$ Z1; iintro Z1
  iapply (wp_put m ρ c 1 f rfl) $$ Z1; iintro Z1
  icases (pts_halves fullShare c 0 1 (fin m ρ c)).1 $$ Z1 with ⟨P11, Z1⟩
  icases (pts_halves fullShare.right c 0 1 (fin m ρ c)).1 $$ Z1 with ⟨P21, Z1⟩
  iapply (wp_copy m ρ K c (0, 1) fullShare.left 0 _ _ ((Fin.ext (k0_dev5_eq c)).trans (nbr_of_toR rfl c).symm) rfl rfl rfl rfl rfl rfl) $$ [S11 P11 D11 Ho]
  · isplitl [S11]; · iexact S11
    isplitl [P11]; · iexact P11
    isplitl [D11]; · iexact D11
    iexact Ho
  iintro ⟨S11, Ho⟩
  iapply (wp_load 𝒱₀ (c : Thread nD τ) none Set.univ (m := wM) (Finset.subset_univ _)) $$ Hw; iintro Hw
  iapply (wp_old c fullShare 0 3 f) $$ Z3; iintro Z3
  iapply (wp_put m ρ c 3 f rfl) $$ Z3; iintro Z3
  icases (pts_halves fullShare c 0 3 (fin m ρ c)).1 $$ Z3 with ⟨P13, Z3⟩
  icases (pts_halves fullShare.right c 0 3 (fin m ρ c)).1 $$ Z3 with ⟨P23, Z3⟩
  iapply (wp_copy m ρ K c (1, 3) fullShare.right.left 0 _ _ ((Fin.ext (k0_dev6_eq c)).trans (nbr_of_not_toR rfl c).symm) rfl rfl rfl rfl rfl rfl) $$ [S23 P23 D23 Ho]
  · isplitl [S23]; · iexact S23
    isplitl [P23]; · iexact P23
    isplitl [D23]; · iexact D23
    iexact Ho
  iintro ⟨S23, Ho⟩
  -- the tokens, the router and the chosen experts
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  -- what has landed passed on
  iapply (wp_recv m ρ K c (0, 0) 1 rfl (order.drop 4) (by decide) rfl (dst := chM 1 0) rfl) $$ [R10 Ho]
  · isplitl [R10]; · iexact R10
    isplitr; · iexact Hlev
    iexact Ho
  iintro ⟨M10, R10, Ho⟩
  icases (pts_halves fullShare c 1 0 (fin m ρ c)).1 $$ M10 with ⟨P30, M10⟩
  iapply (wp_copy m ρ K c (2, 0) fullShare.left 1 _ _ ((Fin.ext (k0_dev7_eq c)).trans (nbr_of_toR rfl c).symm) rfl rfl rfl rfl rfl rfl) $$ [S30 P30 D30 Ho]
  · isplitl [S30]; · iexact S30
    isplitl [P30]; · iexact P30
    isplitl [D30]; · iexact D30
    iexact Ho
  iintro ⟨S30, Ho⟩
  iapply (wp_copy m ρ K c (0, 2) fullShare.left 0 _ _ ((Fin.ext (k0_dev8_eq c)).trans (nbr_of_toR rfl c).symm) rfl rfl rfl rfl rfl rfl) $$ [S12 P12 D12 Ho]
  · isplitl [S12]; · iexact S12
    isplitl [P12]; · iexact P12
    isplitl [D12]; · iexact D12
    iexact Ho
  iintro ⟨S12, Ho⟩
  iapply (wp_recv m ρ K c (1, 2) 2 rfl (order.drop 6) (by decide) rfl (dst := chM 2 2) rfl) $$ [R22 Ho]
  · isplitl [R22]; · iexact R22
    isplitr; · iexact Hlev
    iexact Ho
  iintro ⟨M22, R22, Ho⟩
  icases (pts_halves fullShare c 2 2 (fin m ρ c)).1 $$ M22 with ⟨P32, M22⟩
  iapply (wp_copy m ρ K c (2, 2) fullShare.left 2 _ _ ((Fin.ext (k0_dev9_eq c)).trans (nbr_of_not_toR rfl c).symm) rfl rfl rfl rfl rfl rfl) $$ [S32 P32 D32 Ho]
  · isplitl [S32]; · iexact S32
    isplitl [P32]; · iexact P32
    isplitl [D32]; · iexact D32
    iexact Ho
  iintro ⟨S32, Ho⟩
  iapply (wp_copy m ρ K c (1, 0) fullShare.right.left 0 _ _ ((Fin.ext (k0_dev10_eq c)).trans (nbr_of_not_toR rfl c).symm) rfl rfl rfl rfl rfl rfl) $$ [S20 P20 D20 Ho]
  · isplitl [S20]; · iexact S20
    isplitl [P20]; · iexact P20
    isplitl [D20]; · iexact D20
    iexact Ho
  iintro ⟨S20, Ho⟩
  iapply (wp_recv m ρ K c (0, 1) 1 rfl (order.drop 8) (by decide) rfl (dst := chM 1 1) rfl) $$ [R11 Ho]
  · isplitl [R11]; · iexact R11
    isplitr; · iexact Hlev
    iexact Ho
  iintro ⟨M11, R11, Ho⟩
  icases (pts_halves fullShare c 1 1 (fin m ρ c)).1 $$ M11 with ⟨P31, M11⟩
  iapply (wp_copy m ρ K c (2, 1) fullShare.left 1 _ _ ((Fin.ext (k0_dev11_eq c)).trans (nbr_of_toR rfl c).symm) rfl rfl rfl rfl rfl rfl) $$ [S31 P31 D31 Ho]
  · isplitl [S31]; · iexact S31
    isplitl [P31]; · iexact P31
    isplitl [D31]; · iexact D31
    iexact Ho
  iintro ⟨S31, Ho⟩
  iapply (wp_copy m ρ K c (0, 3) fullShare.left 0 _ _ ((Fin.ext (k0_dev12_eq c)).trans (nbr_of_toR rfl c).symm) rfl rfl rfl rfl rfl rfl) $$ [S13 P13 D13 Ho]
  · isplitl [S13]; · iexact S13
    isplitl [P13]; · iexact P13
    isplitl [D13]; · iexact D13
    iexact Ho
  iintro ⟨S13, Ho⟩
  iapply (wp_recv m ρ K c (1, 3) 2 rfl (order.drop 10) (by decide) rfl (dst := chM 2 3) rfl) $$ [R23 Ho]
  · isplitl [R23]; · iexact R23
    isplitr; · iexact Hlev
    iexact Ho
  iintro ⟨M23, R23, Ho⟩
  icases (pts_halves fullShare c 2 3 (fin m ρ c)).1 $$ M23 with ⟨P33, M23⟩
  iapply (wp_copy m ρ K c (2, 3) fullShare.left 2 _ _ ((Fin.ext (k0_dev13_eq c)).trans (nbr_of_not_toR rfl c).symm) rfl rfl rfl rfl rfl rfl) $$ [S33 P33 D33 Ho]
  · isplitl [S33]; · iexact S33
    isplitl [P33]; · iexact P33
    isplitl [D33]; · iexact D33
    iexact Ho
  iintro ⟨S33, Ho⟩
  iapply (wp_copy m ρ K c (1, 1) fullShare.right.left 0 _ _ ((Fin.ext (k0_dev14_eq c)).trans (nbr_of_not_toR rfl c).symm) rfl rfl rfl rfl rfl rfl) $$ [S21 P21 D21 Ho]
  · isplitl [S21]; · iexact S21
    isplitl [P21]; · iexact P21
    isplitl [D21]; · iexact D21
    iexact Ho
  iintro ⟨S21, Ho⟩
  -- the sixteen products, each when its expert is there
  iapply (wp_chunk m ρ c fullShare.right.right 0 0) $$ Z0; iintro Z0
  iapply (wp_chunk m ρ c fullShare.right.right 0 1) $$ Z1; iintro Z1
  iapply (wp_chunk m ρ c fullShare.right.right 0 2) $$ Z2; iintro Z2
  iapply (wp_chunk m ρ c fullShare.right.right 0 3) $$ Z3; iintro Z3
  iapply (wp_chunk m ρ c fullShare.right 1 0) $$ M10; iintro M10
  iapply (wp_chunk m ρ c fullShare.right 2 2) $$ M22; iintro M22
  iapply (wp_chunk m ρ c fullShare.right 1 1) $$ M11; iintro M11
  iapply (wp_chunk m ρ c fullShare.right 2 3) $$ M23; iintro M23
  iapply (wp_recv m ρ K c (2, 0) 3 rfl [] (by decide) rfl (dst := chM 3 0) rfl) $$ [R30 Ho]
  · isplitl [R30]; · iexact R30
    isplitr; · iexact Hlev
    iexact Ho
  iintro ⟨M30, R30, Ho⟩
  iapply (wp_chunk m ρ c fullShare 3 0) $$ M30; iintro M30
  iapply (wp_recv m ρ K c (2, 2) 3 rfl [] (by decide) rfl (dst := chM 3 2) rfl) $$ [R32 Ho]
  · isplitl [R32]; · iexact R32
    isplitr; · iexact Hlev
    iexact Ho
  iintro ⟨M32, R32, Ho⟩
  iapply (wp_chunk m ρ c fullShare 3 2) $$ M32; iintro M32
  iapply (wp_recv m ρ K c (0, 2) 1 rfl [] (by decide) rfl (dst := chM 1 2) rfl) $$ [R12 Ho]
  · isplitl [R12]; · iexact R12
    isplitr; · iexact Hlev
    iexact Ho
  iintro ⟨M12, R12, Ho⟩
  iapply (wp_chunk m ρ c fullShare 1 2) $$ M12; iintro M12
  iapply (wp_recv m ρ K c (1, 0) 2 rfl [] (by decide) rfl (dst := chM 2 0) rfl) $$ [R20 Ho]
  · isplitl [R20]; · iexact R20
    isplitr; · iexact Hlev
    iexact Ho
  iintro ⟨M20, R20, Ho⟩
  iapply (wp_chunk m ρ c fullShare 2 0) $$ M20; iintro M20
  iapply (wp_recv m ρ K c (2, 1) 3 rfl [] (by decide) rfl (dst := chM 3 1) rfl) $$ [R31 Ho]
  · isplitl [R31]; · iexact R31
    isplitr; · iexact Hlev
    iexact Ho
  iintro ⟨M31, R31, Ho⟩
  iapply (wp_chunk m ρ c fullShare 3 1) $$ M31; iintro M31
  iapply (wp_recv m ρ K c (2, 3) 3 rfl [] (by decide) rfl (dst := chM 3 3) rfl) $$ [R33 Ho]
  · isplitl [R33]; · iexact R33
    isplitr; · iexact Hlev
    iexact Ho
  iintro ⟨M33, R33, Ho⟩
  iapply (wp_chunk m ρ c fullShare 3 3) $$ M33; iintro M33
  iapply (wp_recv m ρ K c (0, 3) 1 rfl [] (by decide) rfl (dst := chM 1 3) rfl) $$ [R13 Ho]
  · isplitl [R13]; · iexact R13
    isplitr; · iexact Hlev
    iexact Ho
  iintro ⟨M13, R13, Ho⟩
  iapply (wp_chunk m ρ c fullShare 1 3) $$ M13; iintro M13
  iapply (wp_recv m ρ K c (1, 1) 2 rfl [] (by decide) rfl (dst := chM 2 1) rfl) $$ [R21 Ho]
  · isplitl [R21]; · iexact R21
    isplitr; · iexact Hlev
    iexact Ho
  iintro ⟨M21, R21, Ho⟩
  iapply (wp_chunk m ρ c fullShare 2 1) $$ M21; iintro M21
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  -- the copies that have left
  iapply (wp_sent m ρ K c (0, 0) fullShare.left 0 rfl rfl rfl (dst := chM 0 0) rfl) $$ [S10 Ho]
  · isplitl [S10]; · iexact S10
    isplitr; · iexact Hlev
    iexact Ho
  iintro ⟨P10, S10, Ho⟩
  iapply (wp_sent m ρ K c (0, 1) fullShare.left 0 rfl rfl rfl (dst := chM 0 1) rfl) $$ [S11 Ho]
  · isplitl [S11]; · iexact S11
    isplitr; · iexact Hlev
    iexact Ho
  iintro ⟨P11, S11, Ho⟩
  iapply (wp_sent m ρ K c (0, 2) fullShare.left 0 rfl rfl rfl (dst := chM 0 2) rfl) $$ [S12 Ho]
  · isplitl [S12]; · iexact S12
    isplitr; · iexact Hlev
    iexact Ho
  iintro ⟨P12, S12, Ho⟩
  iapply (wp_sent m ρ K c (0, 3) fullShare.left 0 rfl rfl rfl (dst := chM 0 3) rfl) $$ [S13 Ho]
  · isplitl [S13]; · iexact S13
    isplitr; · iexact Hlev
    iexact Ho
  iintro ⟨P13, S13, Ho⟩
  iapply (wp_sent m ρ K c (1, 0) fullShare.right.left 0 rfl rfl rfl (dst := chM 0 0) rfl) $$ [S20 Ho]
  · isplitl [S20]; · iexact S20
    isplitr; · iexact Hlev
    iexact Ho
  iintro ⟨P20, S20, Ho⟩
  iapply (wp_sent m ρ K c (1, 1) fullShare.right.left 0 rfl rfl rfl (dst := chM 0 1) rfl) $$ [S21 Ho]
  · isplitl [S21]; · iexact S21
    isplitr; · iexact Hlev
    iexact Ho
  iintro ⟨P21, S21, Ho⟩
  iapply (wp_sent m ρ K c (1, 2) fullShare.right.left 0 rfl rfl rfl (dst := chM 0 2) rfl) $$ [S22 Ho]
  · isplitl [S22]; · iexact S22
    isplitr; · iexact Hlev
    iexact Ho
  iintro ⟨P22, S22, Ho⟩
  iapply (wp_sent m ρ K c (1, 3) fullShare.right.left 0 rfl rfl rfl (dst := chM 0 3) rfl) $$ [S23 Ho]
  · isplitl [S23]; · iexact S23
    isplitr; · iexact Hlev
    iexact Ho
  iintro ⟨P23, S23, Ho⟩
  iapply (wp_sent m ρ K c (2, 0) fullShare.left 1 rfl rfl rfl (dst := chM 1 0) rfl) $$ [S30 Ho]
  · isplitl [S30]; · iexact S30
    isplitr; · iexact Hlev
    iexact Ho
  iintro ⟨P30, S30, Ho⟩
  iapply (wp_sent m ρ K c (2, 1) fullShare.left 1 rfl rfl rfl (dst := chM 1 1) rfl) $$ [S31 Ho]
  · isplitl [S31]; · iexact S31
    isplitr; · iexact Hlev
    iexact Ho
  iintro ⟨P31, S31, Ho⟩
  iapply (wp_sent m ρ K c (2, 2) fullShare.left 2 rfl rfl rfl (dst := chM 2 2) rfl) $$ [S32 Ho]
  · isplitl [S32]; · iexact S32
    isplitr; · iexact Hlev
    iexact Ho
  iintro ⟨P32, S32, Ho⟩
  iapply (wp_sent m ρ K c (2, 3) fullShare.left 2 rfl rfl rfl (dst := chM 2 3) rfl) $$ [S33 Ho]
  · isplitl [S33]; · iexact S33
    isplitr; · iexact Hlev
    iexact Ho
  iintro ⟨P33, S33, Ho⟩
  rw [write_out, wp_ret]; imodintro
  -- the shares of every chunk joined, and the chunks
  ihave Z0 := (pts_halves fullShare.right c 0 0 (fin m ρ c)).2 $$ [P20 Z0]
  · isplitl [P20]; · iexact P20
    iexact Z0
  ihave Z0 := (pts_halves fullShare c 0 0 (fin m ρ c)).2 $$ [P10 Z0]
  · isplitl [P10]; · iexact P10
    iexact Z0
  ihave Z1 := (pts_halves fullShare.right c 0 1 (fin m ρ c)).2 $$ [P21 Z1]
  · isplitl [P21]; · iexact P21
    iexact Z1
  ihave Z1 := (pts_halves fullShare c 0 1 (fin m ρ c)).2 $$ [P11 Z1]
  · isplitl [P11]; · iexact P11
    iexact Z1
  ihave Z2 := (pts_halves fullShare.right c 0 2 (fin m ρ c)).2 $$ [P22 Z2]
  · isplitl [P22]; · iexact P22
    iexact Z2
  ihave Z2 := (pts_halves fullShare c 0 2 (fin m ρ c)).2 $$ [P12 Z2]
  · isplitl [P12]; · iexact P12
    iexact Z2
  ihave Z3 := (pts_halves fullShare.right c 0 3 (fin m ρ c)).2 $$ [P23 Z3]
  · isplitl [P23]; · iexact P23
    iexact Z3
  ihave Z3 := (pts_halves fullShare c 0 3 (fin m ρ c)).2 $$ [P13 Z3]
  · isplitl [P13]; · iexact P13
    iexact Z3
  ihave M10 := (pts_halves fullShare c 1 0 (fin m ρ c)).2 $$ [P30 M10]
  · isplitl [P30]; · iexact P30
    iexact M10
  ihave M11 := (pts_halves fullShare c 1 1 (fin m ρ c)).2 $$ [P31 M11]
  · isplitl [P31]; · iexact P31
    iexact M11
  ihave M22 := (pts_halves fullShare c 2 2 (fin m ρ c)).2 $$ [P32 M22]
  · isplitl [P32]; · iexact P32
    iexact M22
  ihave M23 := (pts_halves fullShare c 2 3 (fin m ρ c)).2 $$ [P33 M23]
  · isplitl [P33]; · iexact P33
    iexact M23
  iapply Hk
  unfold bodyPost Φ₁ Dat.owesAt Pipeline.owesWithin
  rw [show (dats m ρ 0 c).owed t₀.succ = 0 from rfl, scratch_chunks, four, copies, copies, copies]
  isplitl [Z0 Z1 Z2 Z3 M10 M11 M12 M13 M20 M21 M22 M23 M30 M31 M32 M33 S10 S11 S12 S13 S20 S21 S22 S23 S30 S31 S32 S33 R10 R11 R12 R13 R20 R21 R22 R23 R30 R31 R32 R33 HbO Hidle]
  · isplitl [Z0 Z1 Z2 Z3 M10 M11 M12 M13 M20 M21 M22 M23 M30 M31 M32 M33]
    · isplitl [Z0 Z1 Z2 Z3]
      · isplitl [Z0]; · iexact Z0
        isplitl [Z1]; · iexact Z1
        isplitl [Z2]; · iexact Z2
        iexact Z3
      · isplitl [M10]; · iexact M10
        isplitl [M11]; · iexact M11
        isplitl [M12]; · iexact M12
        isplitl [M13]; · iexact M13
        isplitl [M20]; · iexact M20
        isplitl [M21]; · iexact M21
        isplitl [M22]; · iexact M22
        isplitl [M23]; · iexact M23
        isplitl [M30]; · iexact M30
        isplitl [M31]; · iexact M31
        isplitl [M32]; · iexact M32
        iexact M33
    isplitl [HbO]; · iexact HbO
    isplitl [S10 S11 S12 S13 S20 S21 S22 S23 S30 S31 S32 S33]
    · isplitl [S10]; · iexact S10
      isplitl [S11]; · iexact S11
      isplitl [S12]; · iexact S12
      isplitl [S13]; · iexact S13
      isplitl [S20]; · iexact S20
      isplitl [S21]; · iexact S21
      isplitl [S22]; · iexact S22
      isplitl [S23]; · iexact S23
      isplitl [S30]; · iexact S30
      isplitl [S31]; · iexact S31
      isplitl [S32]; · iexact S32
      iexact S33
    isplitl [R10 R11 R12 R13 R20 R21 R22 R23 R30 R31 R32 R33]
    · isplitl [R10]; · iexact R10
      isplitl [R11]; · iexact R11
      isplitl [R12]; · iexact R12
      isplitl [R13]; · iexact R13
      isplitl [R20]; · iexact R20
      isplitl [R21]; · iexact R21
      isplitl [R22]; · iexact R22
      isplitl [R23]; · iexact R23
      isplitl [R30]; · iexact R30
      isplitl [R31]; · iexact R31
      isplitl [R32]; · iexact R32
      iexact R33
    iexact Hidle
  isplitl [Ho]
  · unfold ow
    icases Ho with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _; isplitr; · (ipureintro; rfl)
  iexact Hout

/-- What the launch gives the body, with the protocol's start not opened. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 4000 in
/-- The kernel meets what the pipeline asks of its body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hlev, Hidle⟩, Hscr⟩, Ho, Hx⟩
  iapply (sound_body m ρ K c fun _ => bodyPost m ρ c)
  unfold bodyPre
  isplitr []
  · isplitl [Hg Hlev Hidle Hscr]
    · isplitl [Hg]; · iexact Hg
      isplitl [Hlev]; · iexact Hlev
      isplitl [Hidle] <;> iassumption
    isplitl [Ho] <;> iassumption
  · iintro H; iexact H

end Cert.Moe

end
-- ==== Proof.Launch.lean ====
/-
# The launch: cells and tokens dealt to the devices, and the run of the whole program
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index sets -/

/-- Over the two truth values: one and the other. -/
theorem both (Φ : Bool → sProp 𝕄) : bigSep Finset.univ Φ = iprop(Φ false ∗ Φ true) :=
  bigSep_univ_eq_bigSepL [false, true] (by decide) (by decide) Φ

/-- Over the protocol's semaphores: the barrier, the send cells, the receive cells. -/
theorem parts (Φ : Part → sProp 𝕄) : bigSep Finset.univ Φ
    = iprop(Φ none ∗ bigSep Finset.univ (fun k : Copy => Φ (some (false, k))) ∗ bigSep Finset.univ fun k : Copy => Φ (some (true, k))) := by
  rw [bigSep_univ_at _ (none : Part), show (Finset.univ.erase (none : Part)) = Finset.univ.map (Function.Embedding.some) from by
    ext x; rcases x with _ | x <;> simp, bigSep_map, bigSep_univ_prod, both]
  rfl

/-- The kernel's own semaphores: the idle ones, the send cells, the receive cells. -/
theorem own_sems (c : Dev nD) : (Pipeline.ownSems0 (Ix := Unit) (Name := ℕ) (U := UU) (Lvl := ℕ) (Val := Elt F) (τ := τ) osem c : sProp 𝕄)
    ⊣⊢ iprop(idle c ∗ bigSep Finset.univ (fun k : Copy => semVal (sendCell c k) 0) ∗ bigSep Finset.univ fun k : Copy => semVal (recvCell c k) 0) := by
  have h : (Pipeline.ownSems0 (Ix := Unit) (Name := ℕ) (U := UU) (Lvl := ℕ) (Val := Elt F) (τ := τ) osem c : sProp 𝕄)
      = bigSep Finset.univ fun x : Bool × Fin 4 × Fin 4 => semVal ((c : Thread nD τ), osem x) 0 := rfl
  have row (b : Bool) : (bigSep Finset.univ fun x : Fin 4 × Fin 4 => (semVal ((c : Thread nD τ), osem (b, x)) 0 : sProp 𝕄))
      = iprop((bigSep Finset.univ fun j : Fin 4 => semVal ((c : Thread nD τ), osem (b, 0, j)) 0)
          ∗ bigSep Finset.univ fun k : Copy => semVal (cell c (some (b, k))) 0) := by
    rw [bigSep_univ_prod, bigSep_univ_prod, four, bigSep_univ_eq_bigSepL [(0 : Fin 3), 1, 2] (by decide) (by decide)]
    rfl
  rw [h, bigSep_univ_prod, both, row, row]
  have hi : (idle c : sProp 𝕄) = iprop((bigSep Finset.univ fun j : Fin 4 => semVal ((c : Thread nD τ), osem (false, 0, j)) 0)
      ∗ bigSep Finset.univ fun j : Fin 4 => semVal ((c : Thread nD τ), osem (true, 0, j)) 0) := by
    unfold idle; rw [bigSep_univ_prod, both]
  rw [hi]
  constructor
  · iintro ⟨⟨A, B⟩, ⟨C, D⟩⟩
    isplitl [A C]
    · isplitl [A] <;> iassumption
    isplitl [B] <;> iassumption
  · iintro ⟨⟨A, C⟩, B, D⟩
    isplitl [A B]
    · isplitl [A] <;> iassumption
    isplitl [C] <;> iassumption

/-- The only semaphore outside the launch is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and tokens of the launch -/

/-- The kernel's own semaphores are its own. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- A part's cell at a device. -/
abbrev cellAt (x : Dev nD × Part) : GSem nD τ sig := cell x.1 x.2

/-- All the protocol's cells. -/
def allCells : Finset (GSem nD τ sig) := Finset.univ.map ⟨cellAt, cell_injective⟩

/-- The duties of a device's own cells: two at the barrier, one at each of the copies' cells. -/
abbrev Duty := Bool ⊕ (Bool × Copy)

/-- The token of a duty. -/
abbrev tokOf (x : Dev nD × Duty) : GSem nD τ sig × ℕ × Bool := match x.2 with
  | .inl b => (barCell x.1, 0, b)
  | .inr y => (cell x.1 (some y), 0, false)

/-- Different duties have different tokens. -/
theorem tokOf_injective : Function.Injective (tokOf : Dev nD × Duty → GSem nD τ sig × ℕ × Bool) := by
  rintro ⟨c, x⟩ ⟨c', x'⟩ h
  rcases x with b | y <;> rcases x' with b' | y'
  · have h1 := cell_eq_iff.mp (congrArg Prod.fst h)
    have h2 : b = b' := congrArg (fun z => z.2.2) h
    exact Prod.ext h1.1 (congrArg Sum.inl h2)
  · exact absurd (cell_eq_iff.mp (congrArg Prod.fst h)).2 (by simp)
  · exact absurd (cell_eq_iff.mp (congrArg Prod.fst h)).2 (by simp)
  · have h1 := cell_eq_iff.mp (congrArg Prod.fst h)
    exact Prod.ext h1.1 (congrArg Sum.inr (Option.some.inj h1.2))

/-- All the protocol's tokens. -/
def allToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf allCells allToks)

/-- The tokens of a device's own cells. -/
def toks (c : Dev nD) : sProp 𝕄 :=
  iprop((dutyTok EC (barCell c) 0 false ∗ dutyTok EC (barCell c) 0 true)
    ∗ bigSep Finset.univ (fun k : Copy => dutyTok EC (sendCell c k) 0 false) ∗ bigSep Finset.univ fun k : Copy => dutyTok EC (recvCell c k) 0 false)

/-- What the launch deals to device `c`. -/
def G (c : Dev nD) : sProp 𝕄 :=
  iprop((bigSep Finset.univ fun x : Part => roundState EC (sched m ρ) (cell c x) 0)
    ∗ (bigSep Finset.univ fun x : Part => iprop(atPos EC (cell c x) 0 ∅ 0 ∗ reached EC (cell c x) 0)) ∗ toks c)

/-- The protocol's ghost state deals every device its part. -/
theorem fund : BI.own (EC (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Part => Φ (cell c x) := by
    unfold allCells; rw [bigSep_map, bigSep_univ_prod]; rfl
  have hT : bigSep allToks (fun x => (dutyTok EC x.1 x.2.1 x.2.2 : sProp 𝕄)) = bigSep Finset.univ fun c : Dev nD => toks c := by
    unfold allToks; rw [bigSep_map, bigSep_univ_prod]
    exact bigSep_congr fun c _ => by unfold toks; rw [bigSep_univ_sum, both, bigSep_univ_prod, both]; rfl
  iintro HX
  imod (Rounds.fund EC (sched m ρ) allCells allToks) $$ HX with ⟨Hst, Hr, Hat, Htok⟩
  imodintro
  ihave Hst' := (Entails.of_eq (hX fun g => roundState EC (sched m ρ) g 0)) $$ Hst
  ihave Hat' := (Entails.of_eq (hX fun g => atPos EC g 0 ∅ 0)) $$ Hat
  ihave Hr' := (Entails.of_eq (hX fun g => reached EC g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells opened: invariants for the protocol's, the idle semaphores kept. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Part => iprop(∃ κ : ℕ, cellInv EC (sched m ρ) κ (cell c x)))
          ∗ (bigSep Finset.univ fun x : Part => iprop(atPos EC (cell c x) 0 ∅ 0 ∗ reached EC (cell c x) 0)) ∗ toks c ∗ idle c) := by
  unfold G
  rw [unscopedSems0_eq]
  iintro ⟨Hos, Hb, Hst, Hat, Htok⟩
  icases (own_sems c).1 $$ Hos with ⟨Hidle, Hs, Hr⟩
  ihave Hv : bigSep Finset.univ (fun x : Part => semVal (cell c x) 0) $$ [Hb Hs Hr]
  · rw [parts]
    isplitl [Hb]; · iexact Hb
    isplitl [Hs] <;> iassumption
  imod (show iprop((bigSep Finset.univ fun x : Part => semVal (cell c x) 0) ∗ bigSep Finset.univ fun x : Part => roundState EC (sched m ρ) (cell c x) 0)
      ⊢ (|={Set.univ}=> bigSep Finset.univ fun x : Part => iprop(∃ κ : ℕ, cellInv EC (sched m ρ) κ (cell c x)) : sProp 𝕄) from by
        rw [← bigSep_sep']
        exact (bigSep_mono fun x _ => (Rounds.body_intro EC (sched m ρ) (cell c x)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing the tokens -/

/-- What every device knows: all invariants, and that every cell is at its first round. -/
def records (K : Dev nD × Part → ℕ) : sProp 𝕄 :=
  iprop((bigSep Finset.univ fun x : Dev nD × Part => cellInv EC (sched m ρ) (K x) (cellAt x))
    ∗ bigSep Finset.univ fun x : Dev nD × Part => reached EC (cellAt x) 0)
instance records_persistent (K : Dev nD × Part → ℕ) : BI.Persistent (records m ρ K) := by unfold records; infer_instance

/-- The record of all cells gives each cell's invariant. -/
theorem records_inv (K : Dev nD × Part → ℕ) (c : Dev nD) (x : Part) : (records m ρ K : sProp 𝕄) ⊢ inv m ρ K c x := by
  unfold records
  exact sep_elim_left.trans (bigSep_elim (Finset.mem_univ (c, x)))

/-- The record of all cells gives that each cell has reached its round. -/
theorem records_reached (K : Dev nD × Part → ℕ) (c : Dev nD) (x : Part) : (records m ρ K : sProp 𝕄) ⊢ reached EC (cell c x) 0 := by
  unfold records
  exact sep_elim_right.trans (bigSep_elim (Finset.mem_univ (c, x)))

/-- The tokens of the duties that device `c` itself discharges. -/
def payToks (c : Dev nD) : sProp 𝕄 :=
  iprop((dutyTok EC (barCell (prv c)) 0 true ∗ dutyTok EC (barCell (nxt c)) 0 false)
    ∗ bigSep Finset.univ (fun k : Copy => dutyTok EC (sendCell c k) 0 false) ∗ bigSep Finset.univ fun k : Copy => dutyTok EC (recvCell (nbr k c) k) 0 false)

/-- The positions and tokens of device `c`. -/
def linear (c : Dev nD) : sProp 𝕄 := iprop((bigSep Finset.univ fun x : Part => atPos EC (cell c x) 0 ∅ 0) ∗ payToks c)

/-- What the launch makes of it for device `c`. -/
def G' (c : Dev nD) : sProp 𝕄 := iprop((∃ K, records m ρ K ∗ linear c) ∗ idle c)

/-- Every token goes to the device that discharges its duty: one place down or up the ring. -/
theorem toks_around : (bigSep Finset.univ fun c : Dev nD => (toks c : sProp 𝕄)) ⊢ bigSep Finset.univ fun c : Dev nD => payToks c := by
  have hr : (bigSep Finset.univ fun c : Dev nD => bigSep Finset.univ fun k : Copy => (dutyTok EC (recvCell c k) 0 false : sProp 𝕄))
      = bigSep Finset.univ fun c : Dev nD => bigSep Finset.univ fun k : Copy => dutyTok EC (recvCell (nbr k c) k) 0 false := by
    rw [← bigSep_univ_prod (fun x : Dev nD × Copy => (dutyTok EC (recvCell x.1 x.2) 0 false : sProp 𝕄)),
      ← bigSep_univ_prod (fun x : Dev nD × Copy => (dutyTok EC (recvCell (nbr x.2 x.1) x.2) 0 false : sProp 𝕄)),
      bigSep_univ_equiv (Equiv.mk (fun x : Dev nD × Copy => (nbr x.2 x.1, x.2)) (fun x => ((nbr x.2).symm x.1, x.2))
        (fun x => by simp) (fun x => by simp)) (fun x : Dev nD × Copy => (dutyTok EC (recvCell x.1 x.2) 0 false : sProp 𝕄))]
    rfl
  unfold toks payToks
  rw [bigSep_sep', bigSep_sep', bigSep_sep', bigSep_sep', bigSep_sep', bigSep_sep', hr,
    bigSep_univ_equiv ring (fun c : Dev nD => (dutyTok EC (barCell c) 0 false : sProp 𝕄)),
    bigSep_univ_equiv ring.symm (fun c : Dev nD => (dutyTok EC (barCell c) 0 true : sProp 𝕄))]
  iintro ⟨⟨HF, HT⟩, Hs, Hr⟩
  isplitl [HF HT]
  · isplitl [HT]; · iexact HT
    iexact HF
  isplitl [Hs] <;> iassumption

/-- A fact that may be kept is used at every index of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' cells and tokens, regrouped by who uses them. -/
theorem regroup :
    (bigSep Finset.univ fun c : Dev nD => iprop((bigSep Finset.univ fun x : Part => iprop(∃ κ : ℕ, cellInv EC (sched m ρ) κ (cell c x)))
          ∗ (bigSep Finset.univ fun x : Part => iprop(atPos EC (cell c x) 0 ∅ 0 ∗ reached EC (cell c x) 0)) ∗ toks c ∗ idle c) : sProp 𝕄)
      ⊢ bigSep Finset.univ (G' m ρ) := by
  rw [bigSep_sep', bigSep_sep', bigSep_sep', ← bigSep_univ_prod (fun x : Dev nD × Part => iprop(∃ κ : ℕ, cellInv EC (sched m ρ) κ (cellAt x))),
    bigSep_congr (s := Finset.univ) (fun (c : Dev nD) _ => bigSep_sep' Finset.univ (fun x : Part => (atPos EC (cell c x) 0 ∅ 0 : sProp 𝕄)) (fun x => reached EC (cell c x) 0)),
    bigSep_sep', ← bigSep_univ_prod (fun x : Dev nD × Part => (reached EC (cellAt x) 0 : sProp 𝕄))]
  iintro ⟨HI, ⟨Hat, #HR⟩, Htok, Hidle⟩
  ihave HK := (BI.bigSep_exists_pi Finset.univ (fun (x : Dev nD × Part) (κ : ℕ) => (cellInv EC (sched m ρ) κ (cellAt x) : sProp 𝕄))) $$ HI
  icases HK with ⟨%K, #HI⟩
  ihave Htk := (toks_around (F := F)) $$ Htok
  unfold G'
  rw [bigSep_sep']
  isplitr [Hidle]
  · iapply (bigSep_with (R := records m ρ K) (Φ := fun c : Dev nD => linear c) fun c _ => by
      iintro ⟨#HR, HL⟩
      iexists K
      isplitr; · iexact HR
      iexact HL)
    isplitr
    · unfold records; isplitl; · iexact HI
      iexact HR
    · unfold linear
      rw [bigSep_sep']
      isplitl [Hat] <;> iassumption
  · iexact Hidle

/-- From the semaphores at zero and the ghost state dealt, what each device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- No copy is owed to a barrier. -/
theorem owe_bar (d c : Dev nD) (l : List Copy) : owe d l (barCell c) () = 0 := by
  by_contra h
  obtain ⟨k, -, e⟩ := owe_pos (Nat.pos_of_ne_zero h)
  exact absurd (cell_eq_iff.mp e).2 (by simp)

/-- What a list of copies owes to a receive cell. -/
theorem owe_recv (d c : Dev nD) (k : Copy) : ∀ l : List Copy, l.Nodup → owe d l (recvCell c k) () = if k ∈ l ∧ nbr k d = c then N else 0
  | [], _ => by rw [if_neg (fun h => nomatch h.1)]; rfl
  | k' :: l, hl => by
    have ih := owe_recv d c k l (List.nodup_cons.mp hl).2
    have hn := (List.nodup_cons.mp hl).1
    unfold owe
    rw [Pi.add_apply, Finsupp.add_apply, tallyAt_apply, ih]
    by_cases hk : k = k'
    · subst hk
      rw [if_neg (fun h => hn h.1), Nat.zero_add]
      by_cases hc : nbr k d = c
      · subst hc; rw [if_pos ⟨rfl, rfl⟩, if_pos ⟨List.mem_cons_self, rfl⟩]
      · rw [if_neg (fun h => hc (cell_eq_iff.mp h.1).1.symm), if_neg (fun h => hc h.2)]
    · have h1 : ¬ (recvCell c k = recvCell (nbr k' d) k' ∧ () = ()) := fun h => hk (by
        have := Option.some.inj (cell_eq_iff.mp h.1).2
        exact congrArg Prod.snd this)
      rw [if_neg h1, Nat.add_zero]
      congr 1
      rw [List.mem_cons]
      simp [hk]

/-- What a device owes at launch to a barrier. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owe_bar, tallyAt_apply, tallyAt_apply, Nat.zero_add]
  congr 1
  · by_cases h : d = prv c
    · subst h; rw [nxt_prv, if_pos ⟨rfl, rfl⟩, if_pos rfl]
    · rw [if_neg (fun h1 => h (by rw [← prv_nxt d]; exact congrArg prv (cell_eq_iff.mp h1.1).1.symm)), if_neg h]
  · by_cases h : d = nxt c
    · subst h; rw [prv_nxt, if_pos ⟨rfl, rfl⟩, if_pos rfl]
    · rw [if_neg (fun h1 => h (by rw [← nxt_prv d]; exact congrArg nxt (cell_eq_iff.mp h1.1).1.symm)), if_neg h]

/-- The kernel starts no copy twice. -/
theorem order_nodup : order.Nodup := by decide

/-- The kernel starts every copy. -/
theorem mem_order (k : Copy) : k ∈ order := by revert k; decide

/-- What a device owes at launch to a receive cell. -/
theorem owed_recv (d c : Dev nD) (k : Copy) : O₀ d (recvCell c k) () = if d = (nbr k).symm c then N else 0 := by
  unfold O₀ O₁
  rw [Pi.add_apply, Finsupp.add_apply, Pi.add_apply, Finsupp.add_apply, owe_recv d c k order order_nodup, tallyAt_apply, tallyAt_apply,
    if_neg (fun h : recvCell c k = barCell (nxt d) ∧ () = () => Option.some_ne_none _ (cell_eq_iff.mp h.1).2),
    if_neg (fun h : recvCell c k = barCell (prv d) ∧ () = () => Option.some_ne_none _ (cell_eq_iff.mp h.1).2), Nat.add_zero]
  by_cases h : d = (nbr k).symm c
  · rw [if_pos h, if_pos ⟨mem_order k, by rw [h]; exact (nbr k).apply_symm_apply c⟩]
  · rw [if_neg h, if_neg (fun h' => h (by rw [← h'.2]; exact ((nbr k).symm_apply_apply d).symm))]

/-- All devices together owe two units to each barrier. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- All devices together owe one copy to each receive cell. -/
theorem launch_recv (c : Dev nD) (k : Copy) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ ((nbr k).symm c) fun _ => N, if_pos (Finset.mem_univ _)]

/-- A device's credits at launch: two units at its barrier, a copy at each of its receive cells. -/
theorem creds (c : Dev nD) :
    (Pipeline.launchCred O₀ c : sProp 𝕄) ⊢ iprop(cred (tallyAt (barCell c) () 2) ∗ bigSep Finset.univ fun k : Copy => cred (tallyAt (recvCell c k) () N)) := by
  have h : (Pipeline.launchCred O₀ c : sProp 𝕄)
      ⊢ bigSep Finset.univ fun x : Part => cred (tallyOn (cell c x) (launchCredit (Pipeline.owing O₀) 0 (cell c x))) := by
    unfold Pipeline.launchCred
    refine (bigSep_subset (Finset.subset_univ (Finset.univ.map ⟨psem, psem_injective⟩))).trans ?_
    rw [bigSep_map]; exact Entails.refl _
  refine h.trans ?_
  rw [parts, launch_bar, bigSep_congr (s := Finset.univ) fun (k : Copy) _ => congrArg (fun t => (cred t : sProp 𝕄)) (launch_recv c k)]
  iintro ⟨H2, -, HR⟩
  isplitl [H2] <;> iassumption

/-! ## The launch's side conditions -/

/-- The positions, tokens and credits of a device are what its body starts with. -/
theorem ghost_intro (K : Dev nD × Part → ℕ) (c : Dev nD) :
    iprop(records m ρ K ∗ linear c ∗ cred (tallyAt (barCell c) () 2) ∗ bigSep Finset.univ fun k : Copy => cred (tallyAt (recvCell c k) () N))
      ⊢ ghost m ρ K c := by
  unfold linear payToks ghost barCap
  rw [parts]
  iintro ⟨#HK, ⟨⟨Hab, Has, Har⟩, ⟨HtP, HtN⟩, Hts, Htr⟩, Hc, Hcr⟩
  isplitl [Hab HtP HtN Hc]
  · isplitl [HtP]
    · isplitr; · iapply (records_inv m ρ K (prv c) none); iexact HK
      isplitl [HtP]; · iexact HtP
      iapply (records_reached m ρ K (prv c) none); iexact HK
    isplitl [HtN]
    · isplitr; · iapply (records_inv m ρ K (nxt c) none); iexact HK
      isplitl [HtN]; · iexact HtN
      iapply (records_reached m ρ K (nxt c) none); iexact HK
    isplitr; · iapply (records_inv m ρ K c none); iexact HK
    isplitl [Hab] <;> iassumption
  isplitl [Has Hts Htr]
  · iapply (bigSep_with (R := records m ρ K)
      (Φ := fun k : Copy => iprop(atPos EC (sendCell c k) 0 ∅ 0 ∗ dutyTok EC (sendCell c k) 0 false ∗ dutyTok EC (recvCell (nbr k c) k) 0 false))
      (fun k _ => by
        unfold sendCap
        iintro ⟨#HK, Ha, Hs, Hr⟩
        isplitr; · iapply (records_inv m ρ K c (some (false, k))); iexact HK
        isplitr; · iapply (records_inv m ρ K (nbr k c) (some (true, k))); iexact HK
        isplitl [Ha]; · iexact Ha
        isplitl [Hs]; · iexact Hs
        isplitr; · iapply (records_reached m ρ K c (some (false, k))); iexact HK
        isplitl [Hr]; · iexact Hr
        iapply (records_reached m ρ K (nbr k c) (some (true, k))); iexact HK))
    isplitr; · iexact HK
    rw [bigSep_sep', bigSep_sep']
    isplitl [Has]; · iexact Has
    isplitl [Hts] <;> iassumption
  · iapply (bigSep_with (R := records m ρ K)
      (Φ := fun k : Copy => iprop(atPos EC (recvCell c k) 0 ∅ 0 ∗ cred (tallyAt (recvCell c k) () N)))
      (fun k _ => by
        unfold recvCap
        iintro ⟨#HK, Ha, Hc⟩
        isplitr; · iapply (records_inv m ρ K c (some (true, k))); iexact HK
        isplitl [Ha] <;> iassumption))
    isplitr; · iexact HK
    rw [bigSep_sep']
    isplitl [Har] <;> iassumption

/-- What the launch leaves to a device is what its protocol starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, HK, HL⟩, Hidle⟩
  icases (creds c) $$ Hcr with ⟨H2, HR⟩
  imodintro
  isplitl
  · isplitl [HK HL H2 HR]
    · iexists K
      iapply (ghost_intro m ρ K c)
      isplitl [HK]; · iexact HK
      isplitl [HL]; · iexact HL
      isplitl [H2] <;> iassumption
    isplitl [Hlev] <;> iassumption
  · iempintro

/-- The state before the body, from the protocol's start and the scratch buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hf⟩
  isplitl [Hs] <;> iassumption

/-- The state after the body gives back the semaphores at zero and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁
  iintro ⟨Hf, Hb, Hs, Hr, Hidle⟩
  isplitl [Hb]; · iexact Hb
  isplitl [Hs Hr Hidle]
  · iapply (own_sems c).2
    isplitl [Hidle]; · iexact Hidle
    isplitl [Hs] <;> iassumption
  iexists (fin m ρ c); iexact Hf

/-- Every wait of the launch is allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds at the end. -/
def finalA (c : Dev nD) (w : Fin cfg0.W) : Buf (Elt F) ((cfg0.win w).arr.view.loc (c : Thread nD τ)) := (dats m ρ 0 c).arrAt w cfg0.N

/-- At the end of a run every window's array holds `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values and from any memory with zero semaphores, every weakly fair execution of the
    program terminates, and at its end every array of every device holds the contents computed for it and every semaphore
    is at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/- The frames: both readings of the kernel, and the reference, run to an end with the argument arrays unchanged
   and every counter at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Moe

open Idealize.ShloMosaic Idealize.ShloMosaic.TcCoe Idealize.SL.Sem

/-- What a run leaves in the four argument arrays of device `c` is what it found there. -/
theorem kept {F : FTy → Type} [FloatOps F]
    (m : (ℓ : Loc Cert.KernelIdeal.nD Cert.KernelIdeal.τ Cert.KernelIdeal.sig) → Buf (Elt F) ℓ)
    (ρ : Dev Cert.KernelIdeal.nD → PrngReg) {r} (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c 0).trans ((dats (F := F) m ρ 0 c).arrAt_in 0 rfl _), (h c 1).trans ((dats (F := F) m ρ 0 c).arrAt_in 1 rfl _),
    (h c 2).trans ((dats (F := F) m ρ 0 c).arrAt_in 2 rfl _), (h c 3).trans ((dats (F := F) m ρ 0 c).arrAt_in 3 rfl _)⟩

/-- The two printed texts of the kernel have one body table: the same function at their one label. -/
theorem bodies : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

/-- Hence one table of bodies, regions and pipelines. -/
theorem tables : Cert.Kernel.defs (F := Bits) = Cert.KernelIdeal.defs (F := Bits) :=
  congrArg (Pipeline.defs (Cert.Kernel.pcfgs (F := Bits))) bodies

/-- The kernel over words: its text is the one run over any float values. -/
theorem frame_kernel : Cert.quiescent_Kernel := fun m ρ _ => by
  rw [tables]
  exact (θ_run (Cert.KernelIdeal.defs (F := Bits)) _ _).mono (fun _ h => ⟨kept m ρ h.1, h.2⟩) (run_main (F := Bits) m ρ)

/-- The kernel over the extended reals. -/
theorem frame_ideal : Cert.quiescent_KernelIdeal := fun m ρ _ =>
  (θ_run Cert.KernelIdeal.defs _ _).mono (fun _ h => ⟨kept m ρ h.1, h.2⟩) (run_main (F := Ideal) m ρ)

/-- The reference over the extended reals. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Moe

end

end
-- ==== Proof.Algebra.lean ====
/- The mathematics of one token's mixture over the extended reals: the kernel's gates over all experts against the
   reference's two gates. -/
module

public import Idealize.ShloMosaic.PureOps.Ideal
public import Idealize.ShloMosaic.PureOps.Ideal.Laws

@[expose] public section

noncomputable section

namespace Cert.Moe

open Idealize.ShloMosaic
open scoped BigOperators

/-- The word a maximum starts from is the least value. -/
theorem minus_inf : Ideal.ofBits .f32 0xFF800000#32 = ⊥ := by simp [Ideal.ofBits, Ideal.ieee]

/-- A token's score at each expert: its row times the router's column. -/
def score (x : Fin 256 → EReal) (r : Fin 256 → Fin 16 → EReal) (e : Fin 16) : EReal := ∑ d, x d * r d e

/-- The greatest of the scores. -/
def top (S : Fin 16 → EReal) : EReal := Finset.univ.fold max ⊥ S

/-- A score's exponential weight, relative to the greatest. -/
def weight (S : Fin 16 → EReal) (e : Fin 16) : EReal := Ideal.exp (S e - top S)

/-- The weights of the experts chosen, 0 at the others. -/
def chosen (S : Fin 16 → EReal) (e0 e1 e : Fin 16) : EReal := if e = e0 ∨ e = e1 then weight S e else 0

/-- The kernel's gates: the chosen weights over their sum. -/
def gate (S : Fin 16 → EReal) (e0 e1 e : Fin 16) : EReal :=
  Ideal.div (chosen S e0 e1 e) (∑ k, chosen S e0 e1 k)

/-- The reference's probabilities. -/
def prob (S : Fin 16 → EReal) (e : Fin 16) : EReal := Ideal.div (weight S e) (∑ k, weight S k)

/-- One expert's output coordinate for a token. -/
def yield (x : Fin 256 → EReal) (w : Fin 256 → EReal) : EReal := ∑ d, x d * w d

/-- A finite sum of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Scores of finite tokens by a finite router are real. -/
theorem score_real {x : Fin 256 → EReal} {r : Fin 256 → Fin 16 → EReal} (hx : ∀ d, ∃ a : ℝ, x d = a)
    (hr : ∀ d e, ∃ a : ℝ, r d e = a) (e : Fin 16) : ∃ a : ℝ, score x r e = a := by
  choose a ha using hx
  choose b hb using hr
  refine ⟨∑ d, a d * b d e, ?_⟩
  rw [← coe_sum]
  exact Finset.sum_congr rfl fun d _ => by rw [ha, hb, EReal.coe_mul]

/-- The weights of real scores are positive reals. -/
theorem weight_real {S : Fin 16 → EReal} (hS : ∀ e, ∃ a : ℝ, S e = a) (e : Fin 16) :
    ∃ a : ℝ, 0 < a ∧ weight S e = a := by
  choose s hs using hS
  have hlt : top S < ⊤ := (Finset.fold_max_lt _).2 ⟨bot_lt_top, fun k _ => by rw [hs]; exact EReal.coe_lt_top _⟩
  have hgt : ⊥ < top S := (Finset.lt_fold_max _).2 (Or.inr ⟨0, Finset.mem_univ _, by rw [hs]; exact EReal.bot_lt_coe _⟩)
  refine ⟨Real.exp (s e - (top S).toReal), Real.exp_pos _, ?_⟩
  rw [weight, hs, ← EReal.coe_toReal hlt.ne hgt.ne', ← EReal.coe_sub, Ideal.exp_coe, EReal.toReal_coe]

/-- The quotient of two reals, the second not 0. -/
theorem div_real (a : ℝ) {b : ℝ} (hb : b ≠ 0) : Ideal.div (a : EReal) (b : EReal) = ((a / b : ℝ) : EReal) := by
  rw [Ideal.div_coe hb, ← EReal.coe_mul]; congr 1; ring

/-- A real factor at least 0 on the tokens comes out of an expert's output. -/
theorem yield_scale (x w : Fin 256 → EReal) {g : ℝ} (hg : 0 ≤ g) :
    yield (fun d => x d * (g : EReal)) w = (g : EReal) * yield x w := by
  have h : ∀ s : Finset (Fin 256), ∑ d ∈ s, x d * (g : EReal) * w d = (g : EReal) * ∑ d ∈ s, x d * w d := fun s => by
    induction s using Finset.induction_on with
    | empty => simp
    | insert a s ha ih =>
      rw [Finset.sum_insert ha, Finset.sum_insert ha, ih,
        EReal.left_distrib_of_nonneg_of_ne_top (by exact_mod_cast hg) (EReal.coe_ne_top _), mul_comm (x a), mul_assoc]
  exact h _

/-- **One token's mixture.** For real scores, the sum over every expert of the gated token's output is the two chosen
    experts' outputs, each times its probability over the two probabilities' sum — whether the two are one or not. -/
theorem mixture (x : Fin 256 → EReal) (W : Fin 16 → Fin 256 → EReal) {S : Fin 16 → EReal} (hS : ∀ e, ∃ a : ℝ, S e = a)
    (e0 e1 : Fin 16) :
    ∑ e, yield (fun d => x d * gate S e0 e1 e) (W e)
      = Ideal.div (prob S e0) (prob S e0 + prob S e1) * yield x (W e0)
        + Ideal.div (prob S e1) (prob S e0 + prob S e1) * yield x (W e1) := by
  choose w hw0 hw using weight_real hS
  have hc : ∀ e, chosen S e0 e1 e = ((if e = e0 ∨ e = e1 then w e else 0 : ℝ) : EReal) := fun e => by
    unfold chosen; split_ifs
    · exact hw e
    · rfl
  set G : ℝ := ∑ k, if k = e0 ∨ k = e1 then w k else 0 with hG
  have hpos : ∀ k, 0 ≤ (if k = e0 ∨ k = e1 then w k else 0) := fun k => by
    split_ifs
    · exact (hw0 k).le
    · exact le_rfl
  have hG0 : 0 < G := Finset.sum_pos' (fun k _ => hpos k) ⟨e0, Finset.mem_univ _, by rw [if_pos (Or.inl rfl)]; exact hw0 e0⟩
  have hg : ∀ e, gate S e0 e1 e = (((if e = e0 ∨ e = e1 then w e else 0) / G : ℝ) : EReal) := fun e => by
    rw [gate, hc, Finset.sum_congr rfl fun k _ => hc k, coe_sum, div_real _ hG0.ne']
  have hZ0 : 0 < ∑ k, w k := Finset.sum_pos (fun k _ => hw0 k) ⟨0, Finset.mem_univ _⟩
  have hp : ∀ e, prob S e = ((w e / ∑ k, w k : ℝ) : EReal) := fun e => by
    rw [prob, hw, Finset.sum_congr rfl fun k _ => hw k, coe_sum, div_real _ hZ0.ne']
  have hq : 0 < w e0 / (∑ k, w k) + w e1 / ∑ k, w k := add_pos (div_pos (hw0 _) hZ0) (div_pos (hw0 _) hZ0)
  have hr : ∀ e, Ideal.div (prob S e) (prob S e0 + prob S e1) = ((w e / (w e0 + w e1) : ℝ) : EReal) := fun e => by
    rw [hp, hp, hp, ← EReal.coe_add, div_real _ hq.ne']
    congr 1
    have := hw0 e0; have := hw0 e1
    field_simp
  rw [hr, hr, Finset.sum_congr rfl fun e _ => by rw [hg e, yield_scale x (W e) (div_nonneg (hpos e) hG0.le)]]
  have hz : ∀ e, ¬(e = e0 ∨ e = e1) → (((if e = e0 ∨ e = e1 then w e else 0) / G : ℝ) : EReal) * yield x (W e) = 0 := fun e he => by
    rw [if_neg he, zero_div, EReal.coe_zero, zero_mul]
  by_cases h : e0 = e1
  · subst h
    rw [Finset.sum_eq_single e0 (fun e _ he => hz e (by simpa using he)) (fun hn => absurd (Finset.mem_univ _) hn)]
    have hGe : G = w e0 := by
      rw [hG, Finset.sum_eq_single e0 (fun e _ he => if_neg (by simpa using he)) (fun hn => absurd (Finset.mem_univ _) hn),
        if_pos (Or.inl rfl)]
    have hh : (0 : EReal) ≤ ((w e0 / (w e0 + w e0) : ℝ) : EReal) := by exact_mod_cast (div_pos (hw0 _) (add_pos (hw0 _) (hw0 _))).le
    rw [if_pos (Or.inl rfl), hGe, ← EReal.right_distrib_of_nonneg hh hh, ← EReal.coe_add]
    congr 2
    have := hw0 e0
    field_simp
  · rw [Finset.sum_eq_add e0 e1 h (fun e _ he => hz e (by simpa using he)) (fun hn => absurd (Finset.mem_univ _) hn)
      (fun hn => absurd (Finset.mem_univ _) hn), if_pos (Or.inl rfl), if_pos (Or.inr rfl)]
    have hGe : G = w e0 + w e1 := by
      rw [hG, Finset.sum_eq_add e0 e1 h (fun e _ he => if_neg (by simpa using he)) (fun hn => absurd (Finset.mem_univ _) hn)
        (fun hn => absurd (Finset.mem_univ _) hn), if_pos (Or.inl rfl), if_pos (Or.inr rfl)]
    rw [hGe]

end Cert.Moe

end
-- ==== Proof.Value.lean ====
/- The kernel's result at an index, over the extended reals: for token `t` of device `c` and output column `f`, the sum
   over the sixteen chunks the device holds of the gated token times the chunk. -/
module

public import Idealize.ShloMosaic.PureOps.Ideal
public import Idealize.ShloMosaic.Lib.Pointwise
public import proofs.«01_k».proof.Proof.Launch
public import proofs.«01_k».proof.Proof.Algebra

@[expose] public section

noncomputable section

namespace Cert.Moe

open Cert.KernelIdeal Cert.KernelIdeal.Gen
open Idealize.ShloMosaic Idealize.ShloMosaic.TcCoe
open Idealize.SL.Sem
open scoped BigOperators

/-! ## The gates -/

/-- The mask of the two chosen experts keeps the value at these and takes the other elsewhere. -/
theorem select_chosen {α : Type} (e0 e1 e : Fin 16) (a b : α) :
    Scalar.select (IntOp.ori (IntOp.cmpi .eq (BitVec.ofNat 32 e.val) (BitVec.ofNat 32 e0.val))
      (IntOp.cmpi .eq (BitVec.ofNat 32 e.val) (BitVec.ofNat 32 e1.val))) a b = if e = e0 ∨ e = e1 then a else b := by
  have h : ∀ e0 e1 e : Fin 16, IntOp.ori (IntOp.cmpi .eq (BitVec.ofNat 32 e.val) (BitVec.ofNat 32 e0.val))
      (IntOp.cmpi .eq (BitVec.ofNat 32 e.val) (BitVec.ofNat 32 e1.val)) = if e = e0 ∨ e = e1 then 1#1 else 0#1 := by
    decide +kernel
  rw [h]; split_ifs <;> rfl

/-- The gates the kernel computes of a token are `gate` of its scores. -/
theorem gates_apply (a : FVec Ideal S1024x256 .f32) (r : FVec Ideal S256x16 .f32) (i0 i1 : IVec S1024x1 32)
    (t : Fin 1024) (e0 e1 e : Fin 16) (h0 : i0 (ix2 t 0) = BitVec.ofNat 32 e0.val) (h1 : i1 (ix2 t 0) = BitVec.ofNat 32 e1.val) :
    k0_pay7 (F := Ideal) a r i0 i1 (ix2 t e) = gate (score (fun d => a (ix2 t d)) (fun d e => r (ix2 d e))) e0 e1 e := by
  pointwise [k0_pay7, k0_pay6]
  simp only [h0, h1, select_chosen, minus_inf]
  rfl

/-- The expert whose weights chunk `e` of device `c` holds: chunk `4 s + j` is expert `j` of the device whose weights
    slot `s` holds. -/
def home (c : Dev nD) (e : Fin 16) : Fin 16 :=
  ⟨4 * (own c ⟨e.val / 4, by omega⟩).val + e.val % 4, by
    have := (own c ⟨e.val / 4, by omega⟩).isLt; simp only [nD] at this; omega⟩

/-- The chunks of a device are the sixteen experts, each once. -/
theorem home_bijective (c : Dev nD) : Function.Bijective (home c) :=
  Finite.injective_iff_bijective.1 (by revert c; unfold Function.Injective; decide +kernel)

/-- A word that is 1 where `p` holds and 0 elsewhere, as a float. -/
theorem sitofp_mask (w : BitVec 32) (p : Prop) [Decidable p] (h : w = if p then 1#32 else 0#32) :
    (FloatOps.sitofp .f32 w : Ideal .f32) = if p then (1 : EReal) else 0 := by
  subst h
  split_ifs
  · show (((1#32 : BitVec 32).toInt : ℝ) : EReal) = 1; simp
  · show (((0#32 : BitVec 32).toInt : ℝ) : EReal) = 0; simp

/-- The product with the permutation matrix puts at chunk `e` the gate of the expert it holds. -/
theorem permuted_apply (c : Dev nD) (g : FVec Ideal S1024x16 .f32) (t : Fin 1024) (e : Fin 16) :
    k0_pay10 (devWord c) g (iota .tc S16x16 32 [0] iota_S16x16_d0_w32) (iota .tc S16x16 32 [1] iota_S16x16_d1_w32) 4#32
      k0_pay8 k0_pay9 (ix2 t e) = g (ix2 t (home c e)) := by
  pointwise [k0_pay10, k0_pay8, k0_pay9]
  rw [Finset.sum_congr rfl fun x _ => congrArg (g (ix2 t x) * ·)
      (sitofp_mask _ (x = home c e) (by revert c e x; decide +kernel)),
    Finset.sum_eq_single (home c e) (fun x _ hx => by rw [if_neg hx]; exact mul_zero _)
      (fun h => absurd (Finset.mem_univ _) h), if_pos rfl]
  exact mul_one _

/-! ## The sixteen products -/

/-- The order the kernel sums in does not matter. -/
theorem order_sum (T : Fin 16 → EReal) :
    T 0 + T 1 + T 2 + T 3 + T 4 + T 10 + T 5 + T 11 + T 12 + T 14 + T 6 + T 8 + T 13 + T 15 + T 7 + T 9 = ∑ n, T n := by
  rw [Fin.sum_univ_castSucc]
  simp only [Fin.sum_univ_castSucc, Fin.sum_univ_zero]
  show _ = 0 + T 0 + T 1 + T 2 + T 3 + T 4 + T 5 + T 6 + T 7 + T 8 + T 9 + T 10 + T 11 + T 12 + T 13 + T 14 + T 15
  abel

/-- The kernel's sum of products at an index. -/
theorem combine_apply (x : FVec Ideal S1024x256 .f32) (g : FVec Ideal S1024x16 .f32)
    (w : Fin 4 → Fin 4 → FVec Ideal S1x1x256x512 .bf16) (t : Fin 1024) (f : Fin 512) :
    combine x g w (ix2 t f) = ∑ n : Fin 16, yield (fun d => x (ix2 t d) * g (ix2 t n))
      (fun d => w ⟨n.val / 4, by omega⟩ ⟨n.val % 4, by omega⟩ (ix4 0 0 d f)) := by
  pointwise [combine, k0_pay34, k0_pay33, k0_pay32, k0_pay31, k0_pay30, k0_pay29, k0_pay28, k0_pay27, k0_pay26, k0_pay25,
    k0_pay24, k0_pay23, k0_pay22, k0_pay21, k0_pay20, k0_pay19, k0_pay18, k0_pay17, k0_pay16, k0_pay15, k0_pay14, k0_pay13,
    k0_pay12, k0_pay11]
  exact order_sum fun n : Fin 16 => yield (fun d => x (ix2 t d) * g (ix2 t n))
    (fun d => w ⟨n.val / 4, by omega⟩ ⟨n.val % 4, by omega⟩ (ix4 0 0 d f))

/-! ## What is staged is what the arrays hold -/

section Staged
variable {F : FTy → Type} [FloatOps F] (m : (ℓ : Loc nD τ sig) → Buf (Elt F) ℓ) (ρ : Dev nD → PrngReg) (c : Dev nD)

/-- The staged tokens are the argument. -/
theorem xstg_eq : xstg m ρ c = m ((c : Thread nD τ).loc main_arg0) :=
  Memref.read_access_unit_zero (Elt F) main_arg0 (funext fun a => by fin_cases a <;> decide) (fun a => by fin_cases a <;> decide) _

/-- The staged router weights are the argument. -/
theorem rstg_eq : rstg m ρ c = m ((c : Thread nD τ).loc main_arg1) :=
  Memref.read_access_unit_zero (Elt F) main_arg1 (funext fun a => by fin_cases a <;> decide) (fun a => by fin_cases a <;> decide) _

/-- The staged choices are the argument. -/
theorem istg_eq : istg m ρ c = m ((c : Thread nD τ).loc main_arg2) :=
  Memref.read_access_unit_zero (Elt F) main_arg2 (funext fun a => by fin_cases a <;> decide) (fun a => by fin_cases a <;> decide) _

/-- The staged expert weights are the argument. -/
theorem wstg_eq : wstg m ρ c = m ((c : Thread nD τ).loc main_arg3) :=
  Memref.read_access_unit_zero (Elt F) main_arg3 (funext fun a => by fin_cases a <;> decide) (fun a => by fin_cases a <;> decide) _

/-- The result array ends at the kernel's result. -/
theorem finalA_out : finalA m ρ c 4 = outAt m ρ c := by
  have h := Pipeline.Dat.read_blk_arrAt_eq_flushed (dats m ρ 0 c) 4 (fun t t' _ _ hne => absurd ((fin_N t).trans (fin_N t').symm) hne)
    cfg0.N t₀ t₀.isLt (by decide)
  exact (Memref.read_access_unit_zero (Elt F) main_v1 (funext fun a => by fin_cases a <;> decide)
    (fun a => by fin_cases a <;> decide) _).symm.trans h

/-- The tokens read whole, the router read whole, and a column of the choices. -/
theorem x_read (B : (cc0_stg0_0 : Ref sig .tc).ty.Contents (Elt F)) : xM.view.readAt (Elt F) xR.toLoadRect B = B :=
  Memref.readAt_unit_zero (Elt F) cc0_stg0_0 (funext fun a => by fin_cases a <;> rfl) _ _

/-- A load of all of the router's weights gives them. -/
theorem r_read (B : (cc0_stg1_0 : Ref sig .tc).ty.Contents (Elt F)) : rM.view.readAt (Elt F) rR.toLoadRect B = B :=
  Memref.readAt_unit_zero (Elt F) cc0_stg1_0 (funext fun a => by fin_cases a <;> rfl) _ _

/-- The load of the first column gives the first choices. -/
theorem i0_read (B : (cc0_stg2_0 : Ref sig .tc).ty.Contents (Elt F)) (t : Fin 1024) :
    iM.view.readAt (Elt F) i0R.toLoadRect B (ix2 t 0) = B (ix2 t 0) :=
  congrArg B (funext fun a => Fin.ext (by
    fin_cases a
    · show 0 + 1 * t.val = t.val; omega
    · show 0 + 1 * 0 = 0; omega))

/-- The load of the second column gives the second choices. -/
theorem i1_read (B : (cc0_stg2_0 : Ref sig .tc).ty.Contents (Elt F)) (t : Fin 1024) :
    iM.view.readAt (Elt F) i1R.toLoadRect B (ix2 t 0) = B (ix2 t 1) :=
  congrArg B (funext fun a => Fin.ext (by
    fin_cases a
    · show 0 + 1 * t.val = t.val; omega
    · show 1 + 1 * 0 = 1; omega))

/-- The load of expert `j` gives its weights. -/
theorem w_read (B : (cc0_stg3_0 : Ref sig .tc).ty.Contents (Elt F)) (j : Fin 4) (d : Fin 256) (f : Fin 512) :
    wM.view.readAt (Elt F) (wR j).toLoadRect B (ix3 0 d f) = B (ix3 j d f) :=
  congrArg B (funext fun a => Fin.ext (by
    fin_cases a
    · show j.val + 1 * 0 = j.val; omega
    · show 0 + 1 * d.val = d.val; omega
    · show 0 + 1 * f.val = f.val; omega))

end Staged

/-! ## The result at an index -/

variable (m : (ℓ : Loc nD τ sig) → Buf (Elt Ideal) ℓ) (ρ : Dev nD → PrngReg) (c : Dev nD)

/-- Device `c`'s tokens, as an array of numbers. -/
def argX : FVec Ideal S1024x256 .f32 := m ((c : Thread nD τ).loc main_arg0)

/-- Its router weights. -/
def argR : FVec Ideal S256x16 .f32 := m ((c : Thread nD τ).loc main_arg1)

/-- Its choices. -/
def argI : IVec S1024x2 32 := m ((c : Thread nD τ).loc main_arg2)

/-- Its experts' weights. -/
def argW : FVec Ideal S4x256x512 .f32 := m ((c : Thread nD τ).loc main_arg3)
/-- Its result. -/
def resO : FVec Ideal S1024x512 .f32 := outAt m ρ c

/-- Expert `j` of device `d`, at an index: rounding changes nothing over the extended reals. -/
theorem wchunk_apply (j : Fin 4) (d : Fin 256) (f : Fin 512) :
    wchunk m ρ c j (ix4 0 0 d f) = argW m c (ix3 j d f) := by
  have h : wchunk m ρ c j (ix4 0 0 d f) = (wM.view.readAt (Elt Ideal) (wR j).toLoadRect (wstg m ρ c)) (ix3 0 d f) := by
    unfold wchunk
    generalize wM.view.readAt (Elt Ideal) (wR j).toLoadRect (wstg m ρ c) = v
    pointwise [k0_pay1]
  rw [h, wstg_eq]
  exact w_read _ j d f

/-- The tokens as the kernel multiplies them are the device's. -/
theorem tokens_eq : tokens m ρ c = argX m c := by
  unfold tokens k0_pay6
  rw [shapeCast_self, x_read, xstg_eq]; rfl

/-- The gates the kernel computes, at an index. -/
theorem gates_eq (t : Fin 1024) (e0 e1 e : Fin 16) (h0 : argI m c (ix2 t 0) = BitVec.ofNat 32 e0.val)
    (h1 : argI m c (ix2 t 1) = BitVec.ofNat 32 e1.val) :
    gates m ρ c (ix2 t e) = gate (score (fun d => argX m c (ix2 t d)) (fun d e => argR m c (ix2 d e))) e0 e1 e := by
  unfold gates
  rw [x_read, r_read, xstg_eq, rstg_eq, istg_eq]
  exact gates_apply _ _ _ _ t e0 e1 _ ((i0_read _ t).trans h0) ((i1_read _ t).trans h1)

/-- **The kernel's result at an index.** -/
theorem resO_apply (t : Fin 1024) (f : Fin 512) (e0 e1 : Fin 16) (h0 : argI m c (ix2 t 0) = BitVec.ofNat 32 e0.val)
    (h1 : argI m c (ix2 t 1) = BitVec.ofNat 32 e1.val) :
    resO m ρ c (ix2 t f) = ∑ n : Fin 16,
      yield (fun d => argX m c (ix2 t d)
          * gate (score (fun d => argX m c (ix2 t d)) (fun d e => argR m c (ix2 d e))) e0 e1 (home c n))
        (fun d => argW m (own c ⟨n.val / 4, by omega⟩) (ix3 ⟨n.val % 4, by omega⟩ d f)) := by
  unfold resO outAt
  rw [combine_apply]
  refine Finset.sum_congr rfl fun n _ => congrArg₂ yield (funext fun d => ?_) (funext fun d => wchunk_apply m ρ _ _ d f)
  unfold gatesH
  rw [permuted_apply, tokens_eq, gates_eq m ρ c t e0 e1 _ h0 h1]

end Cert.Moe

end
-- ==== Proof.RefValue.lean ====
/- The reference's result at an index, over the extended reals: for token `t` with choices `e0` and `e1` and output column
   `f`, the two chosen experts' outputs, mixed by the router's probabilities renormalised over the two. -/
module

public import Idealize.ShloMosaic.PureOps.Ideal
public import Idealize.ShloMosaic.Lib.Pointwise
public import proofs.«01_k».proof.Proof.Gen.ReferenceIdeal.Run
public import proofs.«01_k».proof.Proof.Algebra

@[expose] public section

noncomputable section

namespace Cert.Moe
open Idealize.ShloMosaic Idealize.ShloMosaic.TcCoe Cert.ReferenceIdeal Cert.ReferenceIdeal.Gen

/-- A word holding an expert's number, read signed and clamped to the table, is that number. -/
theorem word_clamp (e : Fin 16) : min ((BitVec.ofNat 32 e.val).toInt.toNat) 15 = e.val := by
  revert e; decide +kernel

/-- A word holding an expert's number is left alone by the wrap of negative indices. -/
theorem word_wrap (e : Fin 16) :
    Scalar.select (IntOp.cmpi .slt (BitVec.ofNat 32 e.val) 0#32) (IntOp.addi (BitVec.ofNat 32 e.val) 16#32)
      (BitVec.ofNat 32 e.val) = BitVec.ofNat 32 e.val := by
  revert e; decide +kernel

/-- Taking one entry per row of a table of probabilities: row `t` gives the entry its index names. -/
theorem gather_prob {α : Type} (P : S4096x16.Idx → α) (col : IVec S4096x1x1 32) (t : Fin 4096) (e : Fin 16)
    (h : col (ix3 t 0 0) = BitVec.ofNat 32 e.val) :
    Host.gather gather_S4096x16_S4096x1x1_S4096x1_n_1_0_0_1_2_11 P col (ix2 t 0) = P (ix2 t e) := by
  unfold Host.gather
  refine congrArg P (funext fun a => Fin.ext ?_)
  generalize hD : gather_S4096x16_S4096x1x1_S4096x1_n_1_0_0_1_2_11 = D
  show D.start (ix2 t 0) col a + D.batchCoord (ix2 t 0) a + D.offCoord (ix2 t 0) a = _
  subst hD
  match a with
  | 0 =>
    rw [GatherDims.start_batching _ _ _ _ (by decide), GatherDims.offCoord_eq_zero _ _ _ (by decide)]
    rw [Nat.zero_add, Nat.add_zero]
    rfl
  | 1 =>
    rw [GatherDims.batchCoord_eq_zero _ _ _ (by decide), GatherDims.offCoord_eq_zero _ _ _ (by decide)]
    unfold GatherDims.start
    rw [dif_pos (by decide)]
    have hs : ∀ c, gather_S4096x16_S4096x1x1_S4096x1_n_1_0_0_1_2_11.siIdx (ix2 t 0) c = ix3 t 0 0 := by
      intro c
      funext b
      match b with
      | 0 => rfl
      | 1 => rfl
      | 2 => exact Subsingleton.elim (α := Fin 1) _ _
    rw [hs, h]
    exact word_clamp e

/-- Taking one matrix per row from the experts' weights: row `t` gives the matrix its index names. -/
theorem gather_weight {α : Type} (W : S16x256x512.Idx → α) (col : IVec S4096x1 32) (t : Fin 4096) (d : Fin 256) (f : Fin 512)
    (e : Fin 16) (h : col (ix2 t 0) = BitVec.ofNat 32 e.val) :
    Host.gather gather_S16x256x512_S4096x1_S4096x256x512_12_0_n_n_0_1_1256512 W col (ix3 t d f) = W (ix3 e d f) := by
  unfold Host.gather
  refine congrArg W (funext fun a => Fin.ext ?_)
  generalize hD : gather_S16x256x512_S4096x1_S4096x256x512_12_0_n_n_0_1_1256512 = D
  show D.start (ix3 t d f) col a + D.batchCoord (ix3 t d f) a + D.offCoord (ix3 t d f) a = _
  subst hD
  rw [GatherDims.batchCoord_eq_zero _ _ _ (List.not_mem_nil)]
  match a with
  | 0 =>
    rw [GatherDims.offCoord_eq_zero _ _ _ (by decide)]
    unfold GatherDims.start
    rw [dif_pos (by decide)]
    have hs : ∀ c, gather_S16x256x512_S4096x1_S4096x256x512_12_0_n_n_0_1_1256512.siIdx (ix3 t d f) c = ix2 t 0 := by
      intro c
      funext b
      match b with
      | 0 => rfl
      | 1 => exact Subsingleton.elim (α := Fin 1) _ _
    rw [hs, h]
    exact word_clamp e
  | 1 =>
    unfold GatherDims.start
    rw [dif_neg (by decide), Nat.zero_add]
    rfl
  | 2 =>
    unfold GatherDims.start
    rw [dif_neg (by decide), Nat.zero_add]
    rfl
section
variable (X : FVec Ideal S4096x256 .f32) (R : FVec Ideal S256x16 .f32) (I : IVec S4096x2 32)
  (W : FVec Ideal S16x256x512 .f32)

/-- The scores of every token for every expert. -/
def scores : FVec Ideal S4096x16 .f32 := Host.dotGeneral dot_S4096x256_S256x16_S4096x16_1_0_0_1_n_n none X R

/-- The exponentials of the scores less the row's largest. -/
def weights (S : FVec Ideal S4096x16 .f32) : FVec Ideal S4096x16 .f32 :=
  Host.exp (subf S (broadcastInDim S4096x16 ![0, 1] bcast_S4096x1_S4096x16_0_1 (broadcastInDim S4096x1 ![0] bcast_S4096_S4096x1_0
    (Host.reduce FloatOps.maximumf S (constant S_ .f32 0xFF800000#32) reducesTo_S4096x16_S4096_d1 h_S_))))

/-- The router's probabilities: the exponentials over their row's sum. -/
def probs (E : FVec Ideal S4096x16 .f32) : FVec Ideal S4096x16 .f32 :=
  Host.divf E (broadcastInDim S4096x16 ![0, 1] bcast_S4096x1_S4096x16_0_1 (broadcastInDim S4096x1 ![0] bcast_S4096_S4096x1_0
    (Host.reduceAdd E (constant S_ .f32 0x00000000#32) reducesTo_S4096x16_S4096_d1 h_S_)))

/-- A column of choices as indices into the table of probabilities, negative ones wrapped. -/
def probIx (C : IVec S4096 32) : IVec S4096x1x1 32 :=
  shapeCast _ (select (cmpi .slt (broadcastInDim S4096x1 ![0] bcast_S4096_S4096x1_0 C) (broadcastInDim S4096x1 ![] bcast_S_S4096x1 (constantI S_ 32 0#32)))
    (addi (broadcastInDim S4096x1 ![0] bcast_S4096_S4096x1_0 C) (broadcastInDim S4096x1 ![] bcast_S_S4096x1 (constantI S_ 32 16#32)))
    (broadcastInDim S4096x1 ![0] bcast_S4096_S4096x1_0 C)) shapeCasts_S4096x1_S4096x1x1

/-- A column of choices as indices into the experts' weights, negative ones wrapped. -/
def weightIx (C : IVec S4096 32) : IVec S4096x1 32 :=
  broadcastInDim S4096x1 ![0] bcast_S4096_S4096x1_0 (select (cmpi .slt C (broadcastInDim S4096 ![] bcast_S_S4096 (constantI S_ 32 0#32)))
    (addi C (broadcastInDim S4096 ![] bcast_S_S4096 (constantI S_ 32 16#32))) C)

/-- The first choices. -/
def col0 : IVec S4096 32 := shapeCast _ (extractStridedSlice S4096x1 ![0, 0] I slices_S4096x2_S4096x1_0_0) shapeCasts_S4096x1_S4096

/-- The second choices. -/
def col1 : IVec S4096 32 := shapeCast _ (extractStridedSlice S4096x1 ![0, 1] I slices_S4096x2_S4096x1_0_1) shapeCasts_S4096x1_S4096

/-- The chosen experts' probabilities. -/
def picked (P : FVec Ideal S4096x16 .f32) (C : IVec S4096 32) : FVec Ideal S4096x1 .f32 :=
  Host.gather gather_S4096x16_S4096x1x1_S4096x1_n_1_0_0_1_2_11 P (probIx C)

/-- The chosen experts' weight matrices. -/
def experts (C : IVec S4096 32) : FVec Ideal S4096x256x512 .f32 :=
  Host.gather gather_S16x256x512_S4096x1_S4096x256x512_12_0_n_n_0_1_1256512 W (weightIx C)

/-- Two experts' outputs, each scaled by its probability over the two probabilities' sum. -/
def mix (g0 g1 : FVec Ideal S4096x1 .f32) (w0 w1 : FVec Ideal S4096x256x512 .f32) : FVec Ideal S4096x512 .f32 :=
  addf (mulf (broadcastInDim S4096x512 ![0, 1] bcast_S4096x1_S4096x512_0_1 (Host.divf g0 (addf g0 g1)))
      (Host.dotGeneral dot_S4096x256_S4096x256x512_S4096x512_1_1_n_2_0_0 none X w0))
    (mulf (broadcastInDim S4096x512 ![0, 1] bcast_S4096x1_S4096x512_0_1 (Host.divf g1 (addf g0 g1)))
      (Host.dotGeneral dot_S4096x256_S4096x256x512_S4096x512_1_1_n_2_0_0 none X w1))

/-- A score at a token and an expert. -/
theorem scores_apply (t : Fin 4096) (e : Fin 16) :
    scores X R (ix2 t e) = score (fun d => X (ix2 t d)) (fun d e => R (ix2 d e)) e := by
  unfold score
  pointwise [scores]

/-- An exponential at a token and an expert. -/
theorem weights_apply (S : FVec Ideal S4096x16 .f32) (t : Fin 4096) (e : Fin 16) :
    weights S (ix2 t e) = weight (fun e => S (ix2 t e)) e := by
  unfold weight top
  pointwise [weights]
  rw [minus_inf]

/-- A quotient by the row's sum at a token and an expert. -/
theorem probs_apply (E : FVec Ideal S4096x16 .f32) (t : Fin 4096) (e : Fin 16) :
    probs E (ix2 t e) = Ideal.div (E (ix2 t e)) (∑ k : Fin 16, E (ix2 t k)) := by
  pointwise [probs]

/-- The first choice of a token. -/
theorem col0_apply (t : Fin 4096) : col0 I (ix1 t) = I (ix2 t 0) := by
  pointwise [col0]

/-- The second choice of a token. -/
theorem col1_apply (t : Fin 4096) : col1 I (ix1 t) = I (ix2 t 1) := by
  pointwise [col1]

/-- The index into the table of probabilities of a token whose choice is `e`. -/
theorem probIx_apply (C : IVec S4096 32) (t : Fin 4096) (e : Fin 16) (h : C (ix1 t) = BitVec.ofNat 32 e.val) :
    probIx C (ix3 t 0 0) = BitVec.ofNat 32 e.val := by
  pointwise [probIx]
  rw [h]
  exact word_wrap e

/-- The index into the weights of a token whose choice is `e`. -/
theorem weightIx_apply (C : IVec S4096 32) (t : Fin 4096) (e : Fin 16) (h : C (ix1 t) = BitVec.ofNat 32 e.val) :
    weightIx C (ix2 t 0) = BitVec.ofNat 32 e.val := by
  pointwise [weightIx]
  rw [h]
  exact word_wrap e

/-- The mixture at a token and a column. -/
theorem mix_apply (g0 g1 : FVec Ideal S4096x1 .f32) (w0 w1 : FVec Ideal S4096x256x512 .f32) (t : Fin 4096) (f : Fin 512) :
    mix X g0 g1 w0 w1 (ix2 t f)
      = Ideal.div (g0 (ix2 t 0)) (g0 (ix2 t 0) + g1 (ix2 t 0)) * (∑ d : Fin 256, X (ix2 t d) * w0 (ix3 t d f))
        + Ideal.div (g1 (ix2 t 0)) (g0 (ix2 t 0) + g1 (ix2 t 0)) * (∑ d : Fin 256, X (ix2 t d) * w1 (ix3 t d f)) := by
  pointwise [mix]

/-- The probability gathered for a token whose choice is `e`. -/
theorem picked_apply (P : FVec Ideal S4096x16 .f32) (C : IVec S4096 32) (t : Fin 4096) (e : Fin 16)
    (h : C (ix1 t) = BitVec.ofNat 32 e.val) : picked P C (ix2 t 0) = P (ix2 t e) :=
  gather_prob P _ t e (probIx_apply C t e h)

/-- The weights gathered for a token whose choice is `e`. -/
theorem experts_apply (C : IVec S4096 32) (t : Fin 4096) (d : Fin 256) (f : Fin 512) (e : Fin 16)
    (h : C (ix1 t) = BitVec.ofNat 32 e.val) : experts W C (ix3 t d f) = W (ix3 e d f) :=
  gather_weight W _ t d f e (weightIx_apply C t e h)

/-- The table of probabilities at a token and an expert. -/
theorem prob_apply (t : Fin 4096) (e : Fin 16) :
    probs (weights (scores X R)) (ix2 t e) = prob (score (fun d => X (ix2 t d)) (fun d e => R (ix2 d e))) e := by
  rw [probs_apply]
  simp only [weights_apply, scores_apply]
  rfl

end

variable (m : (ℓ : Loc nD τ sig) → Buf (Elt Ideal) ℓ)

/-- The reference's tokens. -/
def refX : FVec Ideal S4096x256 .f32 := m (((0 : Dev nD).tc : Thread nD τ).loc main_arg0)

/-- The reference's router weights. -/
def refR : FVec Ideal S256x16 .f32 := m (((0 : Dev nD).tc : Thread nD τ).loc main_arg1)

/-- The reference's choices. -/
def refI : IVec S4096x2 32 := m (((0 : Dev nD).tc : Thread nD τ).loc main_arg2)

/-- The reference's expert weights. -/
def refW : FVec Ideal S16x256x512 .f32 := m (((0 : Dev nD).tc : Thread nD τ).loc main_arg3)

/-- The reference's result. -/
def refO : FVec Ideal S4096x512 .f32 := Cert.ReferenceIdeal.Value.res_main_v41 m 0

/-- The reference's result is the mixture of the gathered probabilities and experts. -/
theorem refO_eq : refO m = mix (refX m) (picked (probs (weights (scores (refX m) (refR m)))) (col0 (refI m)))
    (picked (probs (weights (scores (refX m) (refR m)))) (col1 (refI m)))
    (experts (refW m) (col0 (refI m))) (experts (refW m) (col1 (refI m))) := rfl

/-- The reference's result at token `t` and column `f`. -/
theorem refO_apply (t : Fin 4096) (f : Fin 512) (e0 e1 : Fin 16) (h0 : refI m (ix2 t 0) = BitVec.ofNat 32 e0.val)
    (h1 : refI m (ix2 t 1) = BitVec.ofNat 32 e1.val) (S : Fin 16 → EReal)
    (hS : S = score (fun d => refX m (ix2 t d)) (fun d e => refR m (ix2 d e))) :
    refO m (ix2 t f)
      = Ideal.div (prob S e0) (prob S e0 + prob S e1) * yield (fun d => refX m (ix2 t d)) (fun d => refW m (ix3 e0 d f))
        + Ideal.div (prob S e1) (prob S e0 + prob S e1) * yield (fun d => refX m (ix2 t d)) (fun d => refW m (ix3 e1 d f)) := by
  have c0 := (col0_apply (refI m) t).trans h0
  have c1 := (col1_apply (refI m) t).trans h1
  rw [refO_eq, mix_apply, picked_apply _ _ t e0 c0, picked_apply _ _ t e1 c1, prob_apply, prob_apply, ← hS]
  simp only [experts_apply _ _ t _ f e0 c0, experts_apply _ _ t _ f e1 c1]
  rfl

end Cert.Moe
-- ==== Proof.Pre.lean ====
/- What the precondition says: every choice names one of the sixteen experts, and every entry of the tokens and of the
   router's weights is a real number. -/
module

public import Idealize.ShloMosaic.PureOps.Ideal
public import Idealize.ShloMosaic.Lib.ReduceAll
public import Idealize.ShloMosaic.Lib.Pointwise
public import proofs.«01_k».proof.Pre_finite_in_range_KernelIdeal

@[expose] public section

noncomputable section

namespace Cert.Moe

open Idealize.ShloMosaic

/-- A word from 0 to 15 is the number of an expert. -/
theorem choice_word (w : BitVec 32) (h : IntOp.andi (IntOp.cmpi .sge w 0#32) (IntOp.cmpi .slt w 16#32) = 1#1) :
    ∃ e : Fin 16, w = BitVec.ofNat 32 e.val := by
  obtain ⟨h0, h1⟩ := IntOp.andi_eq_one.1 h
  have a : 0 ≤ w.toInt := by simpa using IntOp.cmpi_sge.1 h0
  have b : w.toInt < 16 := by simpa using IntOp.cmpi_slt.1 h1
  refine ⟨⟨w.toInt.toNat, by omega⟩, ?_⟩
  rw [← BitVec.toInt_inj]
  refine Eq.trans ?_ (BitVec.toInt_ofNat' _).symm
  show w.toInt = Int.bmod ((w.toInt.toNat : ℕ) : ℤ) (2 ^ 32)
  rw [Int.toNat_of_nonneg a, Int.bmod_eq_of_le (by omega) (by omega)]

/-- The word of plus infinity is the greatest value. -/
theorem plus_inf : Ideal.ofBits .f32 0x7F800000#32 = ⊤ := by simp [Ideal.ofBits, Ideal.ieee]

/-- A value below plus infinity in absolute value is a real number. -/
theorem finite_word (v : EReal) (h : Ideal.cmp .olt (max v (-v)) (Ideal.ofBits .f32 0x7F800000#32) = 1#1) :
    ∃ a : ℝ, v = a := by
  rw [plus_inf] at h
  have hv : max v (-v) < ⊤ := by
    by_contra hn
    simp [Ideal.cmp, hn] at h
  induction v with
  | bot => simp at hv
  | coe a => exact ⟨a, rfl⟩
  | top => simp at hv

section
open Cert.Pre_finite_in_range_KernelIdeal
variable [Facts]
open Facts

instance : Subsingleton S_.Idx := ⟨fun a b => funext fun i => i.elim0⟩

/-- The precondition of a device's arguments, read back. -/
theorem pre_read (x : FVec Ideal S1024x256 .f32) (r : FVec Ideal S256x16 .f32) (i : IVec S1024x2 32)
    (w : FVec Ideal S4x256x512 .f32) (h : fn (F := Ideal) x r i w = fun _ => 1#1) :
    (∀ j, ∃ e : Fin 16, i j = BitVec.ofNat 32 e.val) ∧ (∀ j, ∃ a : ℝ, x j = (a : EReal)) ∧ ∀ j, ∃ a : ℝ, r j = (a : EReal) := by
  have h0 := congrFun h (fun k => k.elim0)
  unfold fn at h0
  obtain ⟨h1, hr⟩ := IntOp.andi_eq_one.1 h0
  obtain ⟨hi, hx⟩ := IntOp.andi_eq_one.1 h1
  refine ⟨fun j => ?_, fun j => ?_, fun j => ?_⟩
  · exact choice_word _ (Host.reduce_andi_all _ _ _ _ _ hi j)
  · exact finite_word _ (Host.reduce_andi_all _ _ _ _ _ hx j)
  · exact finite_word _ (Host.reduce_andi_all _ _ _ _ _ hr j)
end

end Cert.Moe
-- ==== Proof.Bridge.lean ====
/- The kernel's results against the reference's: device `c`'s result is block `c` of the reference's, when every device
   holds its blocks of the reference's arguments and the precondition holds of them. -/
module

public import proofs.«01_k».proof.Defs
public import proofs.«01_k».proof.Proof.Frames
public import proofs.«01_k».proof.Proof.Value
public import proofs.«01_k».proof.Proof.RefValue
public import proofs.«01_k».proof.Proof.Pre
public import proofs.«01_k».proof.Proof.Gen.Pre_finite_in_range_KernelIdeal

@[expose] public section

noncomputable section

namespace Cert.Moe

open Idealize.ShloMosaic Idealize.ShloMosaic.TcCoe Idealize.SL.Sem
open scoped BigOperators

/-! ## A block at an index -/

/-- Row `t` of device `c`'s rows is row `1024 c + t` of the whole. -/
def row (c : Fin 4) (t : Fin 1024) : Fin 4096 := ⟨c.val * 1024 + t.val, by omega⟩

/-- Expert `j` of device `c`'s experts is expert `4 c + j` of all. -/
def expert (c : Fin 4) (j : Fin 4) : Fin 16 := ⟨c.val * 4 + j.val, by omega⟩

/-- A block of rows at an index. -/
theorem block_rows {α : Type} {n : ℕ} (c : Fin 4) (v : (⟨2, ![4096, n]⟩ : Shape).Idx → α)
    (h : Layout.Tiles ⟨2, ![1024, n]⟩ ⟨2, ![4096, n]⟩ 0 4) (t : Fin 1024) (f : Fin n) :
    Layout.block ⟨2, ![1024, n]⟩ ⟨2, ![4096, n]⟩ 0 4 c v h (ix2 t f) = v (ix2 (row c t) f) :=
  congrArg v (funext fun a => Fin.ext (by fin_cases a <;> rfl))

/-- A block of experts at an index. -/
theorem block_experts {α : Type} (c : Fin 4) (v : (⟨3, ![16, 256, 512]⟩ : Shape).Idx → α)
    (h : Layout.Tiles ⟨3, ![4, 256, 512]⟩ ⟨3, ![16, 256, 512]⟩ 0 4) (j : Fin 4) (d : Fin 256) (f : Fin 512) :
    Layout.block ⟨3, ![4, 256, 512]⟩ ⟨3, ![16, 256, 512]⟩ 0 4 c v h (ix3 j d f) = v (ix3 (expert c j) d f) :=
  congrArg v (funext fun a => Fin.ext (by fin_cases a <;> rfl))

/-! ## The results -/

section
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- Every device's arguments are its parts of the reference's. -/
structure Parts : Prop where
  x : ∀ c, argX m c = Layout.block ⟨2, ![1024, 256]⟩ ⟨2, ![4096, 256]⟩ 0 4 c (refX m')
  r : ∀ c, argR m c = refR m'
  i : ∀ c, argI m c = Layout.block ⟨2, ![1024, 2]⟩ ⟨2, ![4096, 2]⟩ 0 4 c (refI m')
  w : ∀ c, argW m c = Layout.block ⟨3, ![4, 256, 512]⟩ ⟨3, ![16, 256, 512]⟩ 0 4 c (refW m')

/-- Every device's choices are experts, and its tokens and router weights are real numbers. -/
structure Good : Prop where
  i : ∀ c j, ∃ e : Fin 16, argI m c j = BitVec.ofNat 32 e.val
  x : ∀ c j, ∃ a : ℝ, argX m c j = (a : EReal)
  r : ∀ c j, ∃ a : ℝ, argR m c j = (a : EReal)

variable {m m'}

/-- **One entry of a device's result is the reference's entry at its place.** -/
theorem entry (hp : Parts m m') (hg : Good m) (c : Fin 4) (t : Fin 1024) (f : Fin 512) :
    resO m ρ c (ix2 t f) = refO m' (ix2 (row c t) f) := by
  obtain ⟨e0, h0⟩ := hg.i c (ix2 t 0)
  obtain ⟨e1, h1⟩ := hg.i c (ix2 t 1)
  have hx : ∀ d, argX m c (ix2 t d) = refX m' (ix2 (row c t) d) := fun d => by rw [hp.x]; exact block_rows c _ _ t d
  have hi : ∀ k, argI m c (ix2 t k) = refI m' (ix2 (row c t) k) := fun k => by rw [hp.i]; exact block_rows c _ _ t k
  have hw : ∀ (n : Fin 16) (d : Fin 256), argW m (own c ⟨n.val / 4, by omega⟩) (ix3 ⟨n.val % 4, by omega⟩ d f)
      = refW m' (ix3 (home c n) d f) := fun n d => by
    rw [hp.w]
    refine (block_experts _ _ _ _ d f).trans (congrArg (fun k => refW m' (ix3 k d f)) (Fin.ext ?_))
    show (own c _).val * 4 + n.val % 4 = 4 * (own c _).val + n.val % 4
    rw [Nat.mul_comm]
  have hS := score_real (x := fun d => argX m c (ix2 t d)) (r := fun d e => argR m c (ix2 d e)) (fun d => hg.x c _)
    (fun d e => hg.r c _)
  rw [resO_apply m ρ c t f e0 e1 h0 h1,
    refO_apply m' (row c t) f e0 e1 ((hi 0).symm.trans h0) ((hi 1).symm.trans h1)
      (score (fun d => argX m c (ix2 t d)) (fun d e => argR m c (ix2 d e))) (by simp only [hx, hp.r])]
  simp only [hw, ← hx]
  rw [← mixture (fun d => argX m c (ix2 t d)) (fun e d => refW m' (ix3 e d f)) hS e0 e1]
  exact (home_bijective c).sum_comp fun n => yield (fun d => argX m c (ix2 t d)
    * gate (score (fun d => argX m c (ix2 t d)) (fun d e => argR m c (ix2 d e))) e0 e1 n) fun d => refW m' (ix3 n d f)

/-- **A device's result is its block of the reference's.** -/
theorem result (hp : Parts m m') (hg : Good m) (c : Fin 4) :
    resO m ρ c = Layout.block ⟨2, ![1024, 512]⟩ ⟨2, ![4096, 512]⟩ 0 4 c (refO m') := by
  funext j
  have hj : j = ix2 (j 0) (j 1) := funext fun a => by fin_cases a <;> rfl
  rw [hj]
  exact (entry ρ hp hg c _ _).trans (block_rows c _ _ _ _).symm

end

/-! ## The claim -/

/-- **The kernel on four devices computes the reference's result, each device its block.** -/
theorem algebraic : Cert.algebraic_KernelIdeal_ReferenceIdeal_pre_finite_in_range_KernelIdeal :=
  fun m ρ m' ρ' hpre hargs => by
    have hp : Parts m m' := ⟨fun c => (hargs c).1, fun c => (hargs c).2.1, fun c => (hargs c).2.2.1, fun c => (hargs c).2.2.2⟩
    have hg : Good m := ⟨fun c => (pre_read _ _ _ _ (hpre c)).1, fun c => (pre_read _ _ _ _ (hpre c)).2.1,
      fun c => (pre_read _ _ _ _ (hpre c)).2.2⟩
    exact ⟨refO m',
      (θ_run Cert.KernelIdeal.defs _ _).mono
        (fun r h c => ⟨((h.1 c 4).trans (finalA_out m ρ c)).trans (result ρ hp hg c), kept m ρ h.1 c⟩) (run_main (F := Ideal) m ρ),
      (θ_run Cert.ReferenceIdeal.defs _ _).mono (fun r h => h 0) (Cert.ReferenceIdeal.Value.run m' ρ')⟩

end Cert.Moe

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_in_range_KernelIdeal
public import proofs.«01_k».proof.Proof.Gen.Pre_finite_in_range_ReferenceIdeal
public import proofs.«01_k».proof.Proof.Frames
public import proofs.«01_k».proof.Proof.Bridge
public import Idealize.ShloMosaic.Adequacy
public import Idealize.ShloMosaic.Init

@[expose] public section

noncomputable section

namespace Cert.Proof

open Idealize.ShloMosaic Idealize.SL.Sem Cert.Kernel

/-- **Everything claimed**: the kernel's runs end with its arguments unchanged, over words and over the extended reals,
    and so do the reference's; over the extended reals each device's result is its block of the reference's. -/
theorem claim : Cert.Claim := ⟨Cert.Kernel.Gen.facts, Cert.KernelIdeal.Gen.facts, Cert.ReferenceIdeal.Gen.facts,
  Cert.Pre_finite_in_range_KernelIdeal.Gen.facts, Cert.Pre_finite_in_range_ReferenceIdeal.Gen.facts,
  Cert.Moe.frame_kernel, Cert.Moe.frame_ideal, fun m g _ => Cert.Moe.frame_ideal m g trivial,
  Cert.Moe.frame_reference, fun m g _ => Cert.Moe.frame_reference m g trivial, trivial, Cert.Moe.algebraic⟩

end Cert.Proof

end
